-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rec_grad" .f32 0xBBD55555#32 ((-5 / 768 : ℝ) : EReal)
  ∧ IdealRules.named_const.Statement Cert.KernelIdeal.κ "half_stretch" .f32 0x3F19999A#32 ((3 / 5 : ℝ) : EReal)
  ∧ IdealRules.named_const.Statement Cert.KernelIdeal.κ "reg_weight" .f32 0x392AAAAB#32 ((1 / 6144 : ℝ) : EReal)
  ∧ IdealRules.named_const.Statement Cert.KernelIdeal.κ "a_sq_max" .f32 0x3EB851EC#32 ((9 / 25 : ℝ) : EReal)
  ∧ IdealRules.named_const.Statement Cert.KernelIdeal.κ "reg_grad" .f32 0xBE8E38E4#32 ((-5 / 18 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x6144 : Shape := ⟨3, ![2, 128, 6144]⟩
abbrev S2x128x20480 : Shape := ⟨3, ![2, 128, 20480]⟩
abbrev S6144x20480 : Shape := ⟨2, ![6144, 20480]⟩
abbrev S20480 : Shape := ⟨1, ![20480]⟩
abbrev S256x6144 : Shape := ⟨2, ![256, 6144]⟩
abbrev S256x20480 : Shape := ⟨2, ![256, 20480]⟩
abbrev S1x20480 : Shape := ⟨2, ![1, 20480]⟩
abbrev S256x256 : Shape := ⟨2, ![256, 256]⟩
abbrev S6144x256 : Shape := ⟨2, ![6144, 256]⟩
abbrev S1x256 : Shape := ⟨2, ![1, 256]⟩
abbrev S8x256 : Shape := ⟨2, ![8, 256]⟩
abbrev S512x256 : Shape := ⟨2, ![512, 256]⟩
abbrev S256x512 : Shape := ⟨2, ![256, 512]⟩
abbrev S64x8x256 : Shape := ⟨3, ![64, 8, 256]⟩
abbrev S256 : Shape := ⟨1, ![256]⟩

abbrev nBuf : Space → Nat
  | .hbm => 12
  | .vmem => 20
  | .smem => 0
  | _ => 0

abbrev bufTy : (tb : Table) → Fin (tcTables nBuf tb) → BufTy
  | .hbm, ⟨0, _⟩ => ⟨S2x128x6144, .bf16⟩
  | .hbm, ⟨1, _⟩ => ⟨S2x128x20480, .bf16⟩
  | .hbm, ⟨2, _⟩ => ⟨S6144x20480, .i8⟩
  | .hbm, ⟨3, _⟩ => ⟨S20480, .f32⟩
  | .hbm, ⟨4, _⟩ => ⟨S6144x20480, .f32⟩
  | .hbm, ⟨5, _⟩ => ⟨S256x6144, .bf16⟩
  | .hbm, ⟨6, _⟩ => ⟨S256x20480, .bf16⟩
  | .hbm, ⟨7, _⟩ => ⟨S1x20480, .f32⟩
  | .hbm, ⟨8, _⟩ => ⟨S1x20480, .f32⟩
  | .hbm, ⟨9, _⟩ => ⟨S1x20480, .f32⟩
  | .hbm, ⟨10, _⟩ => ⟨S256x20480, .bf16⟩
  | .hbm, ⟨11, _⟩ => ⟨S6144x20480, .f32⟩
  | .local _ .vmem, ⟨0, _⟩ => ⟨S256x6144, .bf16⟩
  | .local _ .vmem, ⟨1, _⟩ => ⟨S256x256, .bf16⟩
  | .local _ .vmem, ⟨2, _⟩ => ⟨S256x256, .bf16⟩
  | .local _ .vmem, ⟨3, _⟩ => ⟨S6144x256, .i8⟩
  | .local _ .vmem, ⟨4, _⟩ => ⟨S6144x256, .i8⟩
  | .local _ .vmem, ⟨5, _⟩ => ⟨S1x256, .f32⟩
  | .local _ .vmem, ⟨6, _⟩ => ⟨S1x256, .f32⟩
  | .local _ .vmem, ⟨7, _⟩ => ⟨S6144x256, .f32⟩
  | .local _ .vmem, ⟨8, _⟩ => ⟨S6144x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S256x256, .bf16⟩
  | .local _ .vmem, ⟨15, _⟩ => ⟨S6144x256, .f32⟩
  | .local _ .vmem, ⟨16, _⟩ => ⟨S6144x256, .f32⟩
  | .local _ .vmem, ⟨17, _⟩ => ⟨S6144x256, .bf16⟩
  | .local _ .vmem, ⟨18, _⟩ => ⟨S6144x256, .f32⟩
  | .local _ .vmem, ⟨19, _⟩ => ⟨S256x256, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32_8 : BitVec 32 := 0#32
  let c12_i32 : BitVec 32 := 12#32
  let v20 : BitVec 32 := Scalar.addi c0_i32_8 c12_i32
  let c1_i32 : BitVec 32 := 1#32
  ⟨c0_i32_8, v20, c1_i32⟩
def k0_mult1 (k0_t1 : Fin k0_t1_loop.trips) : BitVec 32 :=
  let c0_i32_8 : BitVec 32 := 0#32
  let c1_i32 : BitVec 32 := 1#32
  let arg13 : BitVec 32 := Scf.iv c0_i32_8 c1_i32 k0_t1
  let c512_i32 : BitVec 32 := 512#32
  let v45 : BitVec 32 := Scalar.muli arg13 c512_i32
  v45
def k0_off1 (k0_t1 : Fin k0_t1_loop.trips) : Fin 2 → Nat :=
  let c0_i32_8 : BitVec 32 := 0#32
  let c1_i32 : BitVec 32 := 1#32
  let arg13 : BitVec 32 := Scf.iv c0_i32_8 c1_i32 k0_t1
  let c512_i32 : BitVec 32 := 512#32
  let v45 : BitVec 32 := Scalar.muli arg13 c512_i32
  let v46 : BitVec 32 := v45
  let v47 : Index := Scalar.indexCast v46
  let c0_30 : Index := 0#32
  ![v47.toNat, 0]
def k0_off2 (k0_t1 : Fin k0_t1_loop.trips) : Fin 2 → Nat :=
  let c0_39 : Index := 0#32
  let c0_i32_8 : BitVec 32 := 0#32
  let c1_i32 : BitVec 32 := 1#32
  let arg13 : BitVec 32 := Scf.iv c0_i32_8 c1_i32 k0_t1
  let c512_i32 : BitVec 32 := 512#32
  let v45 : BitVec 32 := Scalar.muli arg13 c512_i32
  let v46 : BitVec 32 := v45
  let v73 : Index := Scalar.indexCast v46
  ![0, v73.toNat]
@[reducible] def k0_t2_loop : Scf.Loop 32 :=
  let c0_i32_26 : BitVec 32 := 0#32
  let c12_i32_27 : BitVec 32 := 12#32
  let v44 : BitVec 32 := Scalar.addi c0_i32_26 c12_i32_27
  let c1_i32_28 : BitVec 32 := 1#32
  ⟨c0_i32_26, v44, c1_i32_28⟩
def k0_mult2 (k0_t2 : Fin k0_t2_loop.trips) : BitVec 32 :=
  let c0_i32_26 : BitVec 32 := 0#32
  let c1_i32_28 : BitVec 32 := 1#32
  let arg13 : BitVec 32 := Scf.iv c0_i32_26 c1_i32_28 k0_t2
  let c512_i32 : BitVec 32 := 512#32
  let v45 : BitVec 32 := Scalar.muli arg13 c512_i32
  v45
def k0_off3 (k0_t2 : Fin k0_t2_loop.trips) : Fin 2 → Nat :=
  let c0_i32_26 : BitVec 32 := 0#32
  let c1_i32_28 : BitVec 32 := 1#32
  let arg13 : BitVec 32 := Scf.iv c0_i32_26 c1_i32_28 k0_t2
  let c512_i32 : BitVec 32 := 512#32
  let v45 : BitVec 32 := Scalar.muli arg13 c512_i32
  let v46 : BitVec 32 := v45
  let v47 : Index := Scalar.indexCast v46
  let c0_30 : Index := 0#32
  ![v47.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6144x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6144x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "a_sq_max" => some ((9 / 25 : ℝ) : EReal)
  | "half_stretch" => some ((3 / 5 : ℝ) : EReal)
  | "rec_grad" => some ((-5 / 768 : ℝ) : EReal)
  | "reg_grad" => some ((-5 / 18 : ℝ) : EReal)
  | "reg_weight" => some ((1 / 6144 : ℝ) : EReal)
  | _ => none
-- ==== ReferenceIdeal.lean ====
abbrev S2x128x6144 : Shape := ⟨3, ![2, 128, 6144]⟩
abbrev S2x128x20480 : Shape := ⟨3, ![2, 128, 20480]⟩
abbrev S6144x20480 : Shape := ⟨2, ![6144, 20480]⟩
abbrev S20480 : Shape := ⟨1, ![20480]⟩
abbrev S256x6144 : Shape := ⟨2, ![256, 6144]⟩
abbrev S256x20480 : Shape := ⟨2, ![256, 20480]⟩
abbrev S1x20480 : Shape := ⟨2, ![1, 20480]⟩

abbrev nBuf : Space → Nat
  | .hbm => 12
  | .vmem => 9
  | .smem => 0
  | _ => 0

abbrev bufTy : (tb : Table) → Fin (tcTables nBuf tb) → BufTy
  | .hbm, ⟨0, _⟩ => ⟨S2x128x6144, .bf16⟩
  | .hbm, ⟨1, _⟩ => ⟨S2x128x20480, .bf16⟩
  | .hbm, ⟨2, _⟩ => ⟨S6144x20480, .i8⟩
  | .hbm, ⟨3, _⟩ => ⟨S20480, .f32⟩
  | .hbm, ⟨4, _⟩ => ⟨S6144x20480, .f32⟩
  | .hbm, ⟨5, _⟩ => ⟨S256x6144, .bf16⟩
  | .hbm, ⟨6, _⟩ => ⟨S256x20480, .bf16⟩
  | .hbm, ⟨7, _⟩ => ⟨S1x20480, .f32⟩
  | .hbm, ⟨8, _⟩ => ⟨S1x20480, .f32⟩
  | .hbm, ⟨9, _⟩ => ⟨S1x20480, .f32⟩
  | .hbm, ⟨10, _⟩ => ⟨S256x20480, .bf16⟩
  | .hbm, ⟨11, _⟩ => ⟨S6144x20480, .f32⟩
  | .local _ .vmem, ⟨0, _⟩ => ⟨S256x6144, .bf16⟩
  | .local _ .vmem, ⟨1, _⟩ => ⟨S256x20480, .bf16⟩
  | .local _ .vmem, ⟨2, _⟩ => ⟨S6144x20480, .i8⟩
  | .local _ .vmem, ⟨3, _⟩ => ⟨S1x20480, .f32⟩
  | .local _ .vmem, ⟨4, _⟩ => ⟨S6144x20480, .f32⟩
  | .local _ .vmem, ⟨5, _⟩ => ⟨S1x20480, .f32⟩
  | .local _ .vmem, ⟨6, _⟩ => ⟨S1x20480, .f32⟩
  | .local _ .vmem, ⟨7, _⟩ => ⟨S256x20480, .bf16⟩
  | .local _ .vmem, ⟨8, _⟩ => ⟨S6144x20480, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "gamma" => some ((-1 / 10 : ℝ) : EReal)
  | "reg_slope" => some ((-1 / 384 : ℝ) : EReal)
  | "reg_weight" => some ((1 / 6144 : ℝ) : EReal)
  | "stretch" => some ((6 / 5 : ℝ) : EReal)
  | _ => none

abbrev grid0 : Pipeline.Grid := .none

abbrev stage0_0 : Fin 1 → Memref sig .tc .vmem S256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x20480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x20480 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x20480 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x20480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
module

public import proofs.«01_k».proof.Proof.Gen.Kernel.Frame.Runs
public import Idealize.ShloMosaic.Lib.Claim

@[expose] public section

set_option maxRecDepth 16384

noncomputable section

/-! The frame of the kernel as it is: it runs, and leaves its arguments unchanged. Nothing is said of what its outputs hold. -/

namespace Cert.Kernel.Hand

open Cert.Kernel.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c))⟩) h

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_A (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) :
    { LS0 : List (View.Piece (Elt F) S6144x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__step_eq_skeleton]; unfold cc0__step_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]
    · iexists _, _; isplitr; swap; · iexact HS1
      ipureintro; rfl
    iexists _, _; isplitr; swap; · iexact HS2
    ipureintro; rfl

-- (the run's proof term is large: the definition's epilogue — `abstractNestedProofs` — walks it past the default budget)
set_option maxHeartbeats 1000000 in
/-- What the body's stores leave in each output's staging memref, as pieces (last first) IN CASE B (`scf.if` 0 not taken: points 1, 2, … 79: 79 of 80), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_B (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) :
    { LS0 : List (View.Piece (Elt F) S6144x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0__step_eq_skeleton]; unfold cc0__step_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _, _; isplitr; swap; · iexact HS1
      ipureintro; rfl
    iexists _, _; isplitr; swap; · iexact HS2
    ipureintro; rfl

/-- Case A's pieces for scratch `arg10`, which the kernel carries between points, cover it: 1 piece of `S6144x256` tiling it (Lib/Ring.lean `Piece.tiledL`). -/
theorem scover0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S6144x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S6144x256.size (by sl_kernel_rfl) y

/-- What case A leaves in scratch `arg10`: its pieces read back over junk. -/
def sout0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S6144x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case B stores nothing into scratch `arg10`: it holds what the point before left. -/
def sout0_B_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S6144x256 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S6144x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 80 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 80 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 80 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (5, 6, 7, 8): nothing reads what the kernel leaves in them, so nothing
    of it is named (Lib/Pipeline/Dat.lean `Dat.toRForget`). -/
def forgets0 : Fin 9 → Bool := fun w => w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 80 := lt_of_lt_of_eq t.isLt (show cfg0.N = 80 from N_0)
  by_cases h0 : t.val % 80 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; have hN : t.val < 80 := lt_of_lt_of_eq t.isLt (show cfg0.N = 80 from N_0); omega
  · by_cases hz : t.val = 0
    · exfalso; have hN : t.val < 80 := lt_of_lt_of_eq t.isLt (show cfg0.N = 80 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 80 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Arrays.lean ====
module

public import proofs.«01_k».proof.Proof.Gen.KernelIdeal.Frame.Runs
public import Idealize.ShloMosaic.Lib.ValueIdxCore
public import Idealize.ShloMosaic.Lib.WritesUnit
public import Idealize.ShloMosaic.Lib.VecWindow

@[expose] public section

noncomputable section

namespace Cert.KernelIdeal.Hand

open Idealize.ShloMosaic Idealize.ShloMosaic.ValueIdx
open Cert.KernelIdeal.Gen

variable {F : FTy → Type} [FloatOps F] [Named F]

/-! What one grid point leaves in each array, as functions of its input blocks: `x0` the activations, `x1` the targets,
`x2` the integer weights, `x3` the scales, `x4` the rounding variables. Chunk `k` is rows `512 * k` to `512 * k + 511`. -/

/-- Rows `512 * k …` of an array of 6144 rows (the row index taken modulo 6144, so that any `k` is allowed). -/
def rowsOf {e : EltTy} (X : Vec F S6144x256 e) (k : ℕ) : Vec F S512x256 e := fun j =>
  X (ix2 (⟨(512 * k + (j 0).val) % 6144, Nat.mod_lt _ (by decide)⟩ : Fin 6144) (j 1 : Fin 256))

/-- Columns `512 * k …` of the activations. -/
def colsOf {e : EltTy} (X : Vec F S256x6144 e) (k : ℕ) : Vec F S256x512 e := fun j =>
  X (ix2 (j 0 : Fin 256) (⟨(512 * k + (j 1).val) % 6144, Nat.mod_lt _ (by decide)⟩ : Fin 6144))

/-- The array of 6144 rows whose chunk `k` is `f k`. -/
def tiles {e : EltTy} (f : ℕ → Vec F S512x256 e) : Vec F S6144x256 e := fun i =>
  f ((i 0).val / 512) (ix2 (⟨(i 0).val % 512, Nat.mod_lt _ (by decide)⟩ : Fin 512) (i 1 : Fin 256))

/-- Chunk `k` of the tiled array is tile `k`. -/
theorem rowsOf_tiles {e : EltTy} (f : ℕ → Vec F S512x256 e) (k : ℕ) (hk : k < 12) : rowsOf (tiles f) k = f k := by
  funext j
  have h0 : (j 0).val < 512 := (j 0).isLt
  unfold rowsOf tiles
  have e1 : (512 * k + (j 0).val) % 6144 / 512 = k := by omega
  have e2 : (512 * k + (j 0).val) % 6144 % 512 = (j 0).val := by omega
  show f ((512 * k + (j 0).val) % 6144 / 512) (ix2 (⟨(512 * k + (j 0).val) % 6144 % 512, _⟩ : Fin 512) (j 1 : Fin 256)) = f k j
  rw [e1]
  exact congrArg (f k) (funext fun a => by
    match a with
    | ⟨0, _⟩ => exact Fin.ext e2
    | ⟨1, _⟩ => rfl)

/-- The centred rounding fractions of the block. -/
def aOf (x4 : Vec F S6144x256 .f32) : Vec F S6144x256 .f32 := tiles fun k => k0_pay5 (rowsOf x4 k)

/-- The masked scales of the block. -/
def csOf (x2 : Vec F S6144x256 .i8) (x3 : Vec F S1x256 .f32) (x4 : Vec F S6144x256 .f32) : Vec F S6144x256 .f32 :=
  tiles fun k => k0_pay18 (k0_pay8 (k0_pay15 x3) (rowsOf x4 k) (rowsOf x2 k))

/-- The accumulated product after `k` chunks. -/
def accOf (x0 : Vec F S256x6144 .bf16) (x2 : Vec F S6144x256 .i8) (x3 : Vec F S1x256 .f32) (x4 : Vec F S6144x256 .f32) :
    ℕ → Vec F S256x256 .f32
  | 0 => k0_pay16
  | k + 1 => k0_pay7 (k0_pay10 x3) (k0_pay13 x3) (k0_pay14 x3) (rowsOf x4 k) (rowsOf x2 k) (accOf x0 x2 x3 x4 k) (colsOf x0 k)

/-- The accumulated eighth powers after `k` chunks. -/
def psOf (x4 : Vec F S6144x256 .f32) : ℕ → FVec F S8x256 .f32
  | 0 => k0_pay17
  | k + 1 => k0_pay19 (psOf x4 k) (k0_pay5 (rowsOf x4 k))

/-- The reconstruction loss of the block. -/
def out5 (x0 : Vec F S256x6144 .bf16) (x1 : Vec F S256x256 .bf16) (x2 : Vec F S6144x256 .i8) (x3 : Vec F S1x256 .f32)
    (x4 : Vec F S6144x256 .f32) : Vec F S1x256 .f32 := k0_pay2 (k0_pay21 x1) (accOf x0 x2 x3 x4 12)

/-- The regularizer of the block. -/
def out6 (x4 : Vec F S6144x256 .f32) : Vec F S1x256 .f32 := k0_pay20 (psOf x4 12)

/-- The residual of the block. -/
def out7 (x0 : Vec F S256x6144 .bf16) (x1 : Vec F S256x256 .bf16) (x2 : Vec F S6144x256 .i8) (x3 : Vec F S1x256 .f32)
    (x4 : Vec F S6144x256 .f32) : Vec F S256x256 .bf16 := k0_pay3 (k0_pay21 x1) (accOf x0 x2 x3 x4 12)

/-- The gradient of the block, `xs` being the transposed activations the first grid point left. -/
def out8 (xs : Vec F S6144x256 .bf16) (x0 : Vec F S256x6144 .bf16) (x1 : Vec F S256x256 .bf16) (x2 : Vec F S6144x256 .i8)
    (x3 : Vec F S1x256 .f32) (x4 : Vec F S6144x256 .f32) : Vec F S6144x256 .f32 :=
  tiles fun k => k0_pay4 (k0_pay21 x1) (accOf x0 x2 x3 x4 12) (rowsOf xs k) (rowsOf (aOf x4) k) (rowsOf (csOf x2 x3 x4) k)

/-! Loads and stores of one chunk. -/

variable {sig' : RefSig} {κ' : Kind} {sp' : Space} {e' : EltTy}

/-- A load at chunk `k`'s rows reads the chunk of what the buffer reads. -/
theorem readAt_rows (v : View sig' κ' sp' S6144x256 e') (f : v.ty.Contents (Elt F)) {off : Fin 2 → ℕ} (k : ℕ) (hk : k < 12)
    (h : off = ![512 * k, 0]) (inb : ∀ a, off a + S512x256.size a ≤ S6144x256.size a) :
    v.readAt (Elt F) (Rect.unit (s := S6144x256) off S512x256.size inb).toLoadRect f = rowsOf (v.read (Elt F) f) k := by
  subst h
  funext j
  have h0 : (j 0).val < 512 := (j 0).isLt
  exact congrArg (v.read (Elt F) f) (funext fun a => Fin.ext (by
    match a with
    | ⟨0, _⟩ =>
      show 512 * k + 1 * (j 0).val = (512 * k + (j 0).val) % 6144
      omega
    | ⟨1, _⟩ =>
      show 0 + 1 * (j 1).val = (j 1).val
      omega))

/-- A load at chunk `k`'s columns reads those columns of what the buffer reads. -/
theorem readAt_cols (v : View sig' κ' sp' S256x6144 e') (f : v.ty.Contents (Elt F)) {off : Fin 2 → ℕ} (k : ℕ) (hk : k < 12)
    (h : off = ![0, 512 * k]) (inb : ∀ a, off a + S256x512.size a ≤ S256x6144.size a) :
    v.readAt (Elt F) (Rect.unit (s := S256x6144) off S256x512.size inb).toLoadRect f = colsOf (v.read (Elt F) f) k := by
  subst h
  funext j
  have h1 : (j 1).val < 512 := (j 1).isLt
  exact congrArg (v.read (Elt F) f) (funext fun a => Fin.ext (by
    match a with
    | ⟨0, _⟩ =>
      show 0 + 1 * (j 0).val = (j 0).val
      omega
    | ⟨1, _⟩ =>
      show 512 * k + 1 * (j 1).val = (512 * k + (j 1).val) % 6144
      omega))

/-- The array `g` below row `512 * k`, the array `h` from there on. -/
def upto {e : EltTy} (g h : Vec F S6144x256 e) (k : ℕ) : Vec F S6144x256 e := fun i => if (i 0).val < 512 * k then g i else h i

/-- Before the first chunk nothing is replaced. -/
theorem upto_zero {e : EltTy} (g h : Vec F S6144x256 e) : upto g h 0 = h := by
  funext i
  exact if_neg (by omega)

/-- After all chunks everything is replaced. -/
theorem upto_full {e : EltTy} (g h : Vec F S6144x256 e) : upto g h 12 = g := by
  funext i
  have h0 : (i 0).val < 6144 := (i 0).isLt
  exact if_pos (by omega)

/-- Chunk `k` is not yet reached after `k` chunks. -/
theorem rowsOf_upto {e : EltTy} (g h : Vec F S6144x256 e) (k : ℕ) (hk : k < 12) : rowsOf (upto g h k) k = rowsOf h k := by
  funext j
  have h0 : (j 0).val < 512 := (j 0).isLt
  exact if_neg (by
    show ¬(512 * k + (j 0).val) % 6144 < 512 * k
    omega)

/-- Storing tile `k` over the first `k` tiles makes it the first `k + 1` tiles. -/
theorem read_tile_succ (v : View sig' κ' sp' S6144x256 e') (f : v.ty.Contents (Elt F)) {off : Fin 2 → ℕ} (k : ℕ) (hk : k < 12)
    (h : off = ![512 * k, 0]) (inb : ∀ a, off a + S512x256.size a ≤ S6144x256.size a) (L : List (View.Piece (Elt F) S6144x256 e'))
    (t : ℕ → Vec F S512x256 e') (X : Vec F S6144x256 e') (hL : v.read (Elt F) (v.writes (Elt F) f L) = upto (tiles t) X k) :
    v.read (Elt F) (v.writes (Elt F) f ((⟨Rect.unit (s := S6144x256) off S512x256.size inb, t k⟩ : View.Piece (Elt F) S6144x256 e') :: L))
      = upto (tiles t) X (k + 1) := by
  funext y
  have hy : (y 0).val < 6144 := (y 0).isLt
  by_cases hc : 512 * k ≤ (y 0).val ∧ (y 0).val < 512 * k + 512
  · rw [View.read_writes_cons_rows_of_mem v f inb (t k) L y
      (ix2 (⟨(y 0).val - 512 * k, by omega⟩ : Fin 512) (y 1 : Fin 256)) h
      (by show (y 0).val = 512 * k + ((y 0).val - 512 * k); omega) rfl]
    unfold upto tiles
    rw [if_pos (by omega), show (y 0).val / 512 = k from by omega]
    exact congrArg (t k) (funext fun a => by
      match a with
      | ⟨0, _⟩ => exact Fin.ext (by show (y 0).val - 512 * k = (y 0).val % 512; omega)
      | ⟨1, _⟩ => rfl)
  · rw [View.read_writes_cons_rows_of_not_mem (W := 512) v f inb (t k) L y h rfl (by omega), hL]
    unfold upto
    by_cases h' : (y 0).val < 512 * k
    · rw [if_pos h', if_pos (by omega)]
    · rw [if_neg h', if_neg (by omega)]

end Cert.KernelIdeal.Hand

end
-- ==== Proof.LoopVal.lean ====
module

public import proofs.«01_k».proof.Proof.Arrays

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole)

/-! ## The forward loop -/

section Forward

variable (v3 : Vec F S1x256 .f32) (X1 : BufTy.Contents (Elt F) arg1.view.ty) (X3 : BufTy.Contents (Elt F) arg3.view.ty)
  (X5 : BufTy.Contents (Elt F) arg5.view.ty) (G9 : BufTy.Contents (Elt F) arg9.view.ty) (G11 : BufTy.Contents (Elt F) arg11.view.ty)
  (G12 : BufTy.Contents (Elt F) arg12.view.ty)

/-- What `n` trips of the forward loop leave: the running sum of eighth powers, the first `n` chunks of the rounding
fractions and of the masked scales, and the accumulated product of the first `n` chunks. -/
theorem forward_state (h12 : arg12.view.read (Elt F) G12 = k0_pay16) (n : ℕ) (hn : n ≤ 12) :
    (st_k0_t1 (F := F) 𝒱 c bd i arg1 harg1 arg2 harg2 arg3 harg3 arg4 harg4 arg5 harg5 arg6 harg6 arg7 harg7 arg8 harg8 arg9 harg9 arg10 harg10 arg11 harg11 arg12 harg12 v3 X1 X3 X5 G9 G11 G12 k0_pay17 n).1 = psOf (arg5.view.read (Elt F) X5) n
    ∧ arg9.view.read (Elt F) (arg9.view.writes (Elt F) G9 (st_k0_t1 (F := F) 𝒱 c bd i arg1 harg1 arg2 harg2 arg3 harg3 arg4 harg4 arg5 harg5 arg6 harg6 arg7 harg7 arg8 harg8 arg9 harg9 arg10 harg10 arg11 harg11 arg12 harg12 v3 X1 X3 X5 G9 G11 G12 k0_pay17 n).2.1)
        = upto (aOf (arg5.view.read (Elt F) X5)) (arg9.view.read (Elt F) G9) n
    ∧ arg11.view.read (Elt F) (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 v3 X1 X3 X5 G9 G11 G12 k0_pay17 n).2.2.1)
        = upto (csOf (arg3.view.read (Elt F) X3) v3 (arg5.view.read (Elt F) X5)) (arg11.view.read (Elt F) G11) n
    ∧ arg12.view.read (Elt F) (arg12.view.writes (Elt F) G12 (st_k0_t1 (F := F) 𝒱 c bd i arg1 harg1 arg2 harg2 arg3 harg3 arg4 harg4 arg5 harg5 arg6 harg6 arg7 harg7 arg8 harg8 arg9 harg9 arg10 harg10 arg11 harg11 arg12 harg12 v3 X1 X3 X5 G9 G11 G12 k0_pay17 n).2.2.2)
        = accOf (arg1.view.read (Elt F) X1) (arg3.view.read (Elt F) X3) v3 (arg5.view.read (Elt F) X5) n := by
  induction n with
  | zero =>
    rw [st_k0_t1_zero]
    exact ⟨rfl, (upto_zero _ _).symm, (upto_zero _ _).symm, h12⟩
  | succ k ih =>
    obtain ⟨i1, i2, i3, i4⟩ := ih (by omega)
    have ht : k0_t1_loop.trips = 12 := by decide +kernel
    have hs := st_k0_t1_succ (F := F) 𝒱 c bd i arg1 harg1 arg2 harg2 arg3 harg3 arg4 harg4 arg5 harg5 arg6 harg6 arg7 harg7 arg8 harg8 arg9 harg9 arg10 harg10 arg11 harg11 arg12 harg12 v3 X1 X3 X5 G9 G11 G12 k0_pay17 ⟨k, by omega⟩
    rw [show k + 1 = (⟨k, by omega⟩ : Fin k0_t1_loop.trips).val + 1 from rfl, hs]
    unfold tripR_k0_t1 tripL_k0_t1 trip_k0_t1
    dsimp only
    unfold trip_k0_t1.sl.r_1 trip_k0_t1.sl.r
    dsimp only [List.singleton_append]
    rw [i1]
    have r5 := readAt_rows arg5.view X5 k (by omega) (k0_off1_eq ⟨k, by omega⟩) (k0_off1_inb ⟨k, by omega⟩)
    have r3 := readAt_rows arg3.view X3 k (by omega) (k0_off1_eq ⟨k, by omega⟩) (k0_off1_inb ⟨k, by omega⟩)
    have r1 := readAt_cols arg1.view X1 k (by omega) (k0_off2_eq ⟨k, by omega⟩) (k0_off2_inb ⟨k, by omega⟩)
    rw [r5, r3, r1]
    refine ⟨rfl, ?_, ?_, ?_⟩
    · exact read_tile_succ arg9.view G9 k (by omega) (k0_off1_eq ⟨k, by omega⟩) _ _ (fun k => k0_pay5 (rowsOf (arg5.view.read (Elt F) X5) k)) _ i2
    · exact read_tile_succ arg11.view G11 k (by omega) (k0_off1_eq ⟨k, by omega⟩) _ _
        (fun k => k0_pay18 (k0_pay8 (k0_pay15 v3) (rowsOf (arg5.view.read (Elt F) X5) k) (rowsOf (arg3.view.read (Elt F) X3) k))) _ i3
    · refine (View.read_writes_full arg12.view G12 inb_S256x256_S256x256_0_0 _ _).trans ?_
      exact congrArg (fun z => k0_pay7 (k0_pay10 v3) (k0_pay13 v3) (k0_pay14 v3) (rowsOf (arg5.view.read (Elt F) X5) k) (rowsOf (arg3.view.read (Elt F) X3) k) z (colsOf (arg1.view.read (Elt F) X1) k)) ((View.readAt_full arg12.view _ inb_S256x256_S256x256_0_0).trans i4)

end Forward

/-! ## The backward loop -/

section Backward

variable (v32 : FVec F S256x256 .bf16) (v34 : Vec F S256x256 .f32) (X10 : BufTy.Contents (Elt F) arg10.view.ty)
  (X11 : BufTy.Contents (Elt F) arg11.view.ty) (G9 : BufTy.Contents (Elt F) arg9.view.ty)

/-- What `n` trips of the backward loop leave: the first `n` chunks of the gradient, the rounding fractions from there on. -/
theorem backward_state (n : ℕ) (hn : n ≤ 12) :
    arg9.view.read (Elt F) (arg9.view.writes (Elt F) G9 (pb_k0_t2 (F := F) 𝒱 c bd i arg1 harg1 arg2 harg2 arg3 harg3 arg4 harg4 arg5 harg5 arg6 harg6 arg7 harg7 arg8 harg8 arg9 harg9 arg10 harg10 arg11 harg11 arg12 harg12 v32 v34 X10 X11 G9 n))
      = upto (tiles fun k => k0_pay4 v32 v34 (rowsOf (arg10.view.read (Elt F) X10) k) (rowsOf (arg9.view.read (Elt F) G9) k)
          (rowsOf (arg11.view.read (Elt F) X11) k)) (arg9.view.read (Elt F) G9) n := by
  induction n with
  | zero => exact (upto_zero _ _).symm
  | succ k ih =>
    have i1 := ih (by omega)
    have ht : k0_t2_loop.trips = 12 := by decide +kernel
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 v32 v34 X10 X11 G9 ⟨k, by omega⟩
    rw [show k + 1 = (⟨k, by omega⟩ : Fin k0_t2_loop.trips).val + 1 from rfl, hs]
    unfold tripL_k0_t2 trip_k0_t2
    dsimp only
    dsimp only [List.singleton_append]
    have r10 := readAt_rows arg10.view X10 k (by omega) (k0_off3_eq ⟨k, by omega⟩) (k0_off3_inb ⟨k, by omega⟩)
    have r11 := readAt_rows arg11.view X11 k (by omega) (k0_off3_eq ⟨k, by omega⟩) (k0_off3_inb ⟨k, by omega⟩)
    have r9 := readAt_rows arg9.view (arg9.view.writes (Elt F) G9 (pb_k0_t2 (F := F) 𝒱 c bd i arg1 harg1 arg2 harg2 arg3 harg3 arg4 harg4 arg5 harg5 arg6 harg6 arg7 harg7 arg8 harg8 arg9 harg9 arg10 harg10 arg11 harg11 arg12 harg12 v32 v34 X10 X11 G9 k)) k (by omega) (k0_off3_eq ⟨k, by omega⟩) (k0_off3_inb ⟨k, by omega⟩)
    rw [i1, rowsOf_upto _ _ k (by omega)] at r9
    rw [r10, r11, r9]
    exact read_tile_succ arg9.view G9 k (by omega) (k0_off3_eq ⟨k, by omega⟩) _ _ (fun k => k0_pay4 v32 v34 (rowsOf (arg10.view.read (Elt F) X10) k) (rowsOf (arg9.view.read (Elt F) G9) k)
          (rowsOf (arg11.view.read (Elt F) X11) k)) _ i1

end Backward

end Cert.KernelIdeal.Hand

end
-- ==== Proof.RunVal.lean ====
module

public import proofs.«01_k».proof.Proof.LoopVal

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole)

/-! What the buffers read after both loops. -/

variable (x0 : Vec F S256x6144 .bf16) (x1 : Vec F S256x256 .bf16) (x2 : Vec F S6144x256 .i8) (x3 : Vec F S1x256 .f32)
  (x4 : Vec F S6144x256 .f32) (v3 : Vec F S1x256 .f32) (G9 : BufTy.Contents (Elt F) arg9.view.ty) (G11 : BufTy.Contents (Elt F) arg11.view.ty)
  (G12 : BufTy.Contents (Elt F) arg12.view.ty) (T T' : ℕ)

/-- The running sum of eighth powers after the forward loop. -/
theorem sum_final (hT : T = 12) (hv3 : v3 = x3) (h12 : arg12.view.read (Elt F) G12 = k0_pay16) :
    (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).1 = psOf x4 12 := by
  subst hT; subst hv3
  have h := (forward_state (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 h12 12 le_rfl).1
  rw [h, harg5.read_unread]

/-- The accumulated product after the forward loop. -/
theorem acc_final (hT : T = 12) (hv3 : v3 = x3) (h12 : arg12.view.read (Elt F) G12 = k0_pay16) :
    arg12.view.read (Elt F) (arg12.view.writes (Elt F) G12 (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.2.2) = accOf x0 x2 x3 x4 12 := by
  subst hT; subst hv3
  have h := (forward_state (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 h12 12 le_rfl).2.2.2
  rw [h, harg1.read_unread, harg3.read_unread, harg5.read_unread]

/-- The rounding fractions after the forward loop. -/
theorem frac_final (hT : T = 12) (hv3 : v3 = x3) (h12 : arg12.view.read (Elt F) G12 = k0_pay16) :
    arg9.view.read (Elt F) (arg9.view.writes (Elt F) G9 (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.1) = aOf x4 := by
  subst hT; subst hv3
  have h := (forward_state (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 h12 12 le_rfl).2.1
  rw [h, upto_full, harg5.read_unread]

/-- The masked scales after the forward loop. -/
theorem scale_final (hT : T = 12) (hv3 : v3 = x3) (h12 : arg12.view.read (Elt F) G12 = k0_pay16) :
    arg11.view.read (Elt F) (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.2.1) = csOf x2 x3 x4 := by
  subst hT; subst hv3
  have h := (forward_state (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 h12 12 le_rfl).2.2.1
  rw [h, upto_full, harg3.read_unread, harg5.read_unread]

/-- The gradient after the backward loop. -/
theorem grad_final (v32 : FVec F S256x256 .bf16) (v34 : Vec F S256x256 .f32) (X10 : BufTy.Contents (Elt F) arg10.view.ty)
    (xs : Vec F S6144x256 .bf16) (hT : T = 12) (hT' : T' = 12) (hv3 : v3 = x3) (h12 : arg12.view.read (Elt F) G12 = k0_pay16)
    (h32 : v32 = k0_pay21 x1) (h34 : v34 = accOf x0 x2 x3 x4 12) (h10 : arg10.view.read (Elt F) X10 = xs) :
    arg9.view.read (Elt F) (arg9.view.writes (Elt F) G9 ((pb_k0_t2 (F := F) 𝒱 c bd i arg1 harg1 arg2 harg2 arg3 harg3 arg4 harg4 arg5 harg5 arg6 harg6 arg7 harg7 arg8 harg8 arg9 harg9 arg10 harg10 arg11 harg11 arg12 harg12 v32 v34 X10 (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.2.1) (arg9.view.writes (Elt F) G9 (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.1) T') ++ (st_k0_t1 (F := F) 𝒱 c bd i arg1 harg1 arg2 harg2 arg3 harg3 arg4 harg4 arg5 harg5 arg6 harg6 arg7 harg7 arg8 harg8 arg9 harg9 arg10 harg10 arg11 harg11 arg12 harg12 v3 (harg1.unread x0) (harg3.unread x2) (harg5.unread x4) G9 G11 G12 k0_pay17 T).2.1)) = out8 xs x0 x1 x2 x3 x4 := by
  have a9 := frac_final (F := F) 𝒱 c bd i arg1 harg1 arg2 harg2 arg3 harg3 arg4 harg4 arg5 harg5 arg6 harg6 arg7 harg7 arg8 harg8 arg9 harg9 arg10 harg10 arg11 harg11 arg12 harg12 x0 x2 x3 x4 v3 G9 G11 G12 T hT hv3 h12
  have a11 := scale_final (F := F) 𝒱 c bd i arg1 harg1 arg2 harg2 arg3 harg3 arg4 harg4 arg5 harg5 arg6 harg6 arg7 harg7 arg8 harg8 arg9 harg9 arg10 harg10 arg11 harg11 arg12 harg12 x0 x2 x3 x4 v3 G9 G11 G12 T hT hv3 h12
  subst hT'
  rw [View.writes_append, backward_state (F := F) 𝒱 c bd i arg1 harg1 arg2 harg2 arg3 harg3 arg4 harg4 arg5 harg5 arg6 harg6 arg7 harg7 arg8 harg8 arg9 harg9 arg10 harg10 arg11 harg11 arg12 harg12 v32 v34 X10 _ _ 12 le_rfl, upto_full, a9, a11, h10, h32, h34]
  rfl

/-- A whole buffer whose contents read `w` is one store of `w` over the whole of it. -/
theorem close_whole {sp : Space} {sh : Shape} {e : EltTy} (t : Thread nD τ) {M : Memref sig t.2.kind sp sh e} (hM : M.IsWhole)
    {off : Fin sh.rank → ℕ} (inb : ∀ a, off a + sh.size a ≤ sh.size a) {w : Vec F sh e} {g : M.view.ty.Contents (Elt F)}
    (h : M.view.read (Elt F) g = w) :
    iprop(M.view.loc t ↦[M.view.set]{fullShare} g) ⊢ (iprop(∃ f, M.view.loc t ↦[M.view.set]{fullShare} M.view.writes (Elt F) f [⟨Rect.unit off sh.size inb, w⟩]) : sProp 𝕄) := by
  have e : g = M.view.writes (Elt F) g [⟨Rect.unit off sh.size inb, w⟩] :=
    (hM.eq_unread h).trans (hM.eq_unread (View.read_writes_full M.view g inb w [])).symm
  iintro H
  iexists g
  rw [← e]
  iexact H

end Cert.KernelIdeal.Hand

end
-- ==== Proof.RunA.lean ====
module

public import proofs.«01_k».proof.Proof.RunVal

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first grid point, on whole buffers: it leaves the inputs as they were and stores each output's array over the whole of its buffer. -/
theorem run_A (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f ([⟨Rect.unit (s := S1x256) ![0, 0] S1x256.size inb_S1x256_S1x256_0_0, out5 x0 x1 x2 x3 x4⟩] : List (View.Piece (Elt F) S1x256 .f32))) ∗ (∃ f, arg7.view.loc (c : Thread nD τ) ↦[arg7.view.set]{fullShare} arg7.view.writes (Elt F) f ([⟨Rect.unit (s := S1x256) ![0, 0] S1x256.size inb_S1x256_S1x256_0_0, out6 x4⟩] : List (View.Piece (Elt F) S1x256 .f32))) ∗ (∃ f, arg8.view.loc (c : Thread nD τ) ↦[arg8.view.set]{fullShare} arg8.view.writes (Elt F) f ([⟨Rect.unit (s := S256x256) ![0, 0] S256x256.size inb_S256x256_S256x256_0_0, out7 x0 x1 x2 x3 x4⟩] : List (View.Piece (Elt F) S256x256 .bf16))) ∗ (∃ f, arg9.view.loc (c : Thread nD τ) ↦[arg9.view.set]{fullShare} arg9.view.writes (Elt F) f ([⟨Rect.unit (s := S6144x256) ![0, 0] S6144x256.size inb_S6144x256_S6144x256_0_0, out8 (k0_pay9 x0) x0 x1 x2 x3 x4⟩] : List (View.Piece (Elt F) S6144x256 .f32))) ∗ (∃ f, arg10.view.loc (c : Thread nD τ) ↦[arg10.view.set]{fullShare} arg10.view.writes (Elt F) f ([⟨Rect.unit (s := S6144x256) ![0, 0] S6144x256.size inb_S6144x256_S6144x256_0_0, k0_pay9 x0⟩] : List (View.Piece (Elt F) S6144x256 .bf16))) ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K := by
  simp only [cc0__step_eq_skeleton]; unfold cc0__step_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  have hv3 := (View.readAt_full arg4.view (harg4.unread x3) inb_S1x256_S1x256_0_0).trans (harg4.read_unread x3)
  have h12 : arg12.view.read (Elt F) (arg12.view.writes (Elt F) arg12.view.junk [(⟨Rect.unit (s := S256x256) ![0, 0] S256x256.size inb_S256x256_S256x256_0_0, k0_pay16⟩ : View.Piece (Elt F) S256x256 .f32)]) = k0_pay16 :=
    View.read_writes_full arg12.view _ inb_S256x256_S256x256_0_0 _ []
  have hT : Scf.trips k0_t1_loop.lb k0_t1_loop.ub k0_t1_loop.st = 12 := by decide +kernel
  have hT' : Scf.trips k0_t2_loop.lb k0_t2_loop.ub k0_t2_loop.st = 12 := by decide +kernel
  have h32 : k0_pay21 (View.readAt (Elt F) arg2.view (Rect.unit (s := S256x256) ![0, 0] S256x256.size inb_S256x256_S256x256_0_0).toLoadRect (harg2.unread x1)) = k0_pay21 x1 :=
    congrArg k0_pay21 ((View.readAt_full arg2.view (harg2.unread x1) inb_S256x256_S256x256_0_0).trans (harg2.read_unread x1))
  have h34 := (View.readAt_full arg12.view _ inb_S256x256_S256x256_0_0).trans
    ((congrArg (arg12.view.read (Elt F)) (View.writes_append arg12.view arg12.view.junk _ _)).trans
      (acc_final (F := F) Variants.none c none i arg1 harg1 arg2 harg2 arg3 harg3 arg4 harg4 arg5 harg5 arg6 harg6 arg7 harg7 arg8 harg8 arg9 harg9 arg10 harg10 arg11 harg11 arg12 harg12 x0 x2 x3 x4 _ f8 fs1 _ _ hT hv3 h12))
  have hps := sum_final (F := F) Variants.none c none i arg1 harg1 arg2 harg2 arg3 harg3 arg4 harg4 arg5 harg5 arg6 harg6 arg7 harg7 arg8 harg8 arg9 harg9 arg10 harg10 arg11 harg11 arg12 harg12 x0 x2 x3 x4 _ f8 fs1 _ _ hT hv3 h12
  have h9 : k0_pay9 (View.readAt (Elt F) arg1.view (Rect.unit (s := S256x6144) ![0, 0] S256x6144.size inb_S256x6144_S256x6144_0_0).toLoadRect (harg1.unread x0)) = k0_pay9 x0 :=
    congrArg k0_pay9 ((View.readAt_full arg1.view (harg1.unread x0) inb_S256x6144_S256x6144_0_0).trans (harg1.read_unread x0))
  have h10 : arg10.view.read (Elt F) (arg10.view.writes (Elt F) arg10.view.junk [(⟨Rect.unit (s := S6144x256) ![0, 0] S6144x256.size inb_S6144x256_S6144x256_0_0, k0_pay9 (View.readAt (Elt F) arg1.view (Rect.unit (s := S256x6144) ![0, 0] S256x6144.size inb_S256x6144_S256x6144_0_0).toLoadRect (harg1.unread x0))⟩ : View.Piece (Elt F) S6144x256 .bf16)]) = k0_pay9 x0 :=
    (View.read_writes_full arg10.view _ inb_S6144x256_S6144x256_0_0 _ []).trans h9
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · have hH : arg6.view.read (Elt F) (arg6.view.writes (Elt F) arg6.view.junk [(⟨Rect.unit (s := S1x256) ![0, 0] S1x256.size inb_S1x256_S1x256_0_0, k0_pay2 _ _⟩ : View.Piece (Elt F) S1x256 .f32)]) = out5 x0 x1 x2 x3 x4 :=
      (View.read_writes_full arg6.view _ inb_S1x256_S1x256_0_0 _ []).trans (congrArg₂ k0_pay2 h32 h34)
    exact close_whole (c : Thread nD τ) harg6 inb_S1x256_S1x256_0_0 hH
  isplitl [H6]
  · have hH : arg7.view.read (Elt F) (arg7.view.writes (Elt F) arg7.view.junk [(⟨Rect.unit (s := S1x256) ![0, 0] S1x256.size inb_S1x256_S1x256_0_0, k0_pay20 _⟩ : View.Piece (Elt F) S1x256 .f32)]) = out6 x4 :=
      (View.read_writes_full arg7.view _ inb_S1x256_S1x256_0_0 _ []).trans (congrArg k0_pay20 hps)
    exact close_whole (c : Thread nD τ) harg7 inb_S1x256_S1x256_0_0 hH
  isplitl [H7]
  · have hH : arg8.view.read (Elt F) (arg8.view.writes (Elt F) arg8.view.junk [(⟨Rect.unit (s := S256x256) ![0, 0] S256x256.size inb_S256x256_S256x256_0_0, k0_pay3 _ _⟩ : View.Piece (Elt F) S256x256 .bf16)]) = out7 x0 x1 x2 x3 x4 :=
      (View.read_writes_full arg8.view _ inb_S256x256_S256x256_0_0 _ []).trans (congrArg₂ k0_pay3 h32 h34)
    exact close_whole (c : Thread nD τ) harg8 inb_S256x256_S256x256_0_0 hH
  isplitl [H8]
  · have hH := grad_final (F := F) Variants.none c none i arg1 harg1 arg2 harg2 arg3 harg3 arg4 harg4 arg5 harg5 arg6 harg6 arg7 harg7 arg8 harg8 arg9 harg9 arg10 harg10 arg11 harg11 arg12 harg12 x0 x1 x2 x3 x4 _ f8 fs1 _ _ _ _ _ _ _ hT hT' hv3 h12 h32 h34 h10
    exact close_whole (c : Thread nD τ) harg9 inb_S6144x256_S6144x256_0_0 hH
  isplitl [HS0]
  · have hH := h10
    exact close_whole (c : Thread nD τ) harg10 inb_S6144x256_S6144x256_0_0 hH
  isplitl [HS1]
  · iexists _, _; isplitr; swap; · iexact HS1
    ipureintro; rfl
  iexists _, _; isplitr; swap; · iexact HS2
  ipureintro; rfl

/-- What each buffer is left with at the first grid point, with the proof that the body leaves it. -/
noncomputable def kernelRun0_A (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) :
    Σ' (L5 : List (View.Piece (Elt F) S1x256 .f32)), Σ' (L6 : List (View.Piece (Elt F) S1x256 .f32)), Σ' (L7 : List (View.Piece (Elt F) S256x256 .bf16)), Σ' (L8 : List (View.Piece (Elt F) S6144x256 .f32)), { LS0 : List (View.Piece (Elt F) S6144x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K } :=
  ⟨[⟨Rect.unit (s := S1x256) ![0, 0] S1x256.size inb_S1x256_S1x256_0_0, out5 x0 x1 x2 x3 x4⟩], [⟨Rect.unit (s := S1x256) ![0, 0] S1x256.size inb_S1x256_S1x256_0_0, out6 x4⟩], [⟨Rect.unit (s := S256x256) ![0, 0] S256x256.size inb_S256x256_S256x256_0_0, out7 x0 x1 x2 x3 x4⟩], [⟨Rect.unit (s := S6144x256) ![0, 0] S6144x256.size inb_S6144x256_S6144x256_0_0, out8 (k0_pay9 x0) x0 x1 x2 x3 x4⟩],
    [⟨Rect.unit (s := S6144x256) ![0, 0] S6144x256.size inb_S6144x256_S6144x256_0_0, k0_pay9 x0⟩], run_A c i arg1 harg1 arg2 harg2 arg3 harg3 arg4 harg4 arg5 harg5 arg6 harg6 arg7 harg7 arg8 harg8 arg9 harg9 arg10 harg10 arg11 harg11 arg12 harg12 hc0 x0 x1 x2 x3 x4⟩

end Cert.KernelIdeal.Hand

end
-- ==== Proof.RunB.lean ====
module

public import proofs.«01_k».proof.Proof.RunA

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a grid point after the first, on whole buffers: it leaves the inputs as they were and stores each output's array over the whole of its buffer. -/
theorem run_B (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f ([⟨Rect.unit (s := S1x256) ![0, 0] S1x256.size inb_S1x256_S1x256_0_0, out5 x0 x1 x2 x3 x4⟩] : List (View.Piece (Elt F) S1x256 .f32))) ∗ (∃ f, arg7.view.loc (c : Thread nD τ) ↦[arg7.view.set]{fullShare} arg7.view.writes (Elt F) f ([⟨Rect.unit (s := S1x256) ![0, 0] S1x256.size inb_S1x256_S1x256_0_0, out6 x4⟩] : List (View.Piece (Elt F) S1x256 .f32))) ∗ (∃ f, arg8.view.loc (c : Thread nD τ) ↦[arg8.view.set]{fullShare} arg8.view.writes (Elt F) f ([⟨Rect.unit (s := S256x256) ![0, 0] S256x256.size inb_S256x256_S256x256_0_0, out7 x0 x1 x2 x3 x4⟩] : List (View.Piece (Elt F) S256x256 .bf16))) ∗ (∃ f, arg9.view.loc (c : Thread nD τ) ↦[arg9.view.set]{fullShare} arg9.view.writes (Elt F) f ([⟨Rect.unit (s := S6144x256) ![0, 0] S6144x256.size inb_S6144x256_S6144x256_0_0, out8 xs0 x0 x1 x2 x3 x4⟩] : List (View.Piece (Elt F) S6144x256 .f32))) ∗ owns (c : Thread nD τ) arg10 fullShare xs0 ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K := by
  simp only [cc0__step_eq_skeleton]; unfold cc0__step_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0)
  sl_step
  have hv3 := (View.readAt_full arg4.view (harg4.unread x3) inb_S1x256_S1x256_0_0).trans (harg4.read_unread x3)
  have h12 : arg12.view.read (Elt F) (arg12.view.writes (Elt F) arg12.view.junk [(⟨Rect.unit (s := S256x256) ![0, 0] S256x256.size inb_S256x256_S256x256_0_0, k0_pay16⟩ : View.Piece (Elt F) S256x256 .f32)]) = k0_pay16 :=
    View.read_writes_full arg12.view _ inb_S256x256_S256x256_0_0 _ []
  have hT : Scf.trips k0_t1_loop.lb k0_t1_loop.ub k0_t1_loop.st = 12 := by decide +kernel
  have hT' : Scf.trips k0_t2_loop.lb k0_t2_loop.ub k0_t2_loop.st = 12 := by decide +kernel
  have h32 : k0_pay21 (View.readAt (Elt F) arg2.view (Rect.unit (s := S256x256) ![0, 0] S256x256.size inb_S256x256_S256x256_0_0).toLoadRect (harg2.unread x1)) = k0_pay21 x1 :=
    congrArg k0_pay21 ((View.readAt_full arg2.view (harg2.unread x1) inb_S256x256_S256x256_0_0).trans (harg2.read_unread x1))
  have h34 := (View.readAt_full arg12.view _ inb_S256x256_S256x256_0_0).trans
    ((congrArg (arg12.view.read (Elt F)) (View.writes_append arg12.view arg12.view.junk _ _)).trans
      (acc_final (F := F) Variants.none c none i arg1 harg1 arg2 harg2 arg3 harg3 arg4 harg4 arg5 harg5 arg6 harg6 arg7 harg7 arg8 harg8 arg9 harg9 arg10 harg10 arg11 harg11 arg12 harg12 x0 x2 x3 x4 _ f8 fs1 _ _ hT hv3 h12))
  have hps := sum_final (F := F) Variants.none c none i arg1 harg1 arg2 harg2 arg3 harg3 arg4 harg4 arg5 harg5 arg6 harg6 arg7 harg7 arg8 harg8 arg9 harg9 arg10 harg10 arg11 harg11 arg12 harg12 x0 x2 x3 x4 _ f8 fs1 _ _ hT hv3 h12
  have h10 := harg10.read_unread xs0
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · have hH : arg6.view.read (Elt F) (arg6.view.writes (Elt F) arg6.view.junk [(⟨Rect.unit (s := S1x256) ![0, 0] S1x256.size inb_S1x256_S1x256_0_0, k0_pay2 _ _⟩ : View.Piece (Elt F) S1x256 .f32)]) = out5 x0 x1 x2 x3 x4 :=
      (View.read_writes_full arg6.view _ inb_S1x256_S1x256_0_0 _ []).trans (congrArg₂ k0_pay2 h32 h34)
    exact close_whole (c : Thread nD τ) harg6 inb_S1x256_S1x256_0_0 hH
  isplitl [H6]
  · have hH : arg7.view.read (Elt F) (arg7.view.writes (Elt F) arg7.view.junk [(⟨Rect.unit (s := S1x256) ![0, 0] S1x256.size inb_S1x256_S1x256_0_0, k0_pay20 _⟩ : View.Piece (Elt F) S1x256 .f32)]) = out6 x4 :=
      (View.read_writes_full arg7.view _ inb_S1x256_S1x256_0_0 _ []).trans (congrArg k0_pay20 hps)
    exact close_whole (c : Thread nD τ) harg7 inb_S1x256_S1x256_0_0 hH
  isplitl [H7]
  · have hH : arg8.view.read (Elt F) (arg8.view.writes (Elt F) arg8.view.junk [(⟨Rect.unit (s := S256x256) ![0, 0] S256x256.size inb_S256x256_S256x256_0_0, k0_pay3 _ _⟩ : View.Piece (Elt F) S256x256 .bf16)]) = out7 x0 x1 x2 x3 x4 :=
      (View.read_writes_full arg8.view _ inb_S256x256_S256x256_0_0 _ []).trans (congrArg₂ k0_pay3 h32 h34)
    exact close_whole (c : Thread nD τ) harg8 inb_S256x256_S256x256_0_0 hH
  isplitl [H8]
  · have hH := grad_final (F := F) Variants.none c none i arg1 harg1 arg2 harg2 arg3 harg3 arg4 harg4 arg5 harg5 arg6 harg6 arg7 harg7 arg8 harg8 arg9 harg9 arg10 harg10 arg11 harg11 arg12 harg12 x0 x1 x2 x3 x4 _ f8 fs1 _ _ _ _ _ _ _ hT hT' hv3 h12 h32 h34 h10
    exact close_whole (c : Thread nD τ) harg9 inb_S6144x256_S6144x256_0_0 hH
  isplitl [HS0]
  · iexists _; isplitr; · ipureintro; exact harg10.read_unread _
    iexact HS0
  isplitl [HS1]
  · iexists _, _; isplitr; swap; · iexact HS1
    ipureintro; rfl
  iexists _, _; isplitr; swap; · iexact HS2
  ipureintro; rfl

/-- What each buffer is left with at a grid point after the first, with the proof that the body leaves it. -/
noncomputable def kernelRun0_B (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) :
    Σ' (L5 : List (View.Piece (Elt F) S1x256 .f32)), Σ' (L6 : List (View.Piece (Elt F) S1x256 .f32)), Σ' (L7 : List (View.Piece (Elt F) S256x256 .bf16)), Σ' (L8 : List (View.Piece (Elt F) S6144x256 .f32)), { LS0 : List (View.Piece (Elt F) S6144x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ (∃ d, owns (c : Thread nD τ) arg12 fullShare d)) -∗ K ⟨⟩))
          ⊢ wp frame (wpE (defs₀ (F := F)) Variants.none c none) E (cc0__step i arg1 harg1 arg2 harg2 arg3 harg3 arg4 harg4 arg5 harg5 arg6 harg6 arg7 harg7 arg8 harg8 arg9 harg9 arg10 harg10 arg11 harg11 arg12 harg12) K } :=
  ⟨[⟨Rect.unit (s := S1x256) ![0, 0] S1x256.size inb_S1x256_S1x256_0_0, out5 x0 x1 x2 x3 x4⟩], [⟨Rect.unit (s := S1x256) ![0, 0] S1x256.size inb_S1x256_S1x256_0_0, out6 x4⟩], [⟨Rect.unit (s := S256x256) ![0, 0] S256x256.size inb_S256x256_S256x256_0_0, out7 x0 x1 x2 x3 x4⟩], [⟨Rect.unit (s := S6144x256) ![0, 0] S6144x256.size inb_S6144x256_S6144x256_0_0, out8 xs0 x0 x1 x2 x3 x4⟩],
    [], run_B c i arg1 harg1 arg2 harg2 arg3 harg3 arg4 harg4 arg5 harg5 arg6 harg6 arg7 harg7 arg8 harg8 arg9 harg9 arg10 harg10 arg11 harg11 arg12 harg12 hc0 x0 x1 x2 x3 x4 xs0⟩

end Cert.KernelIdeal.Hand

end
-- ==== Proof.FrameRun.lean ====
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S1x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S1x256.size (by sl_kernel_rfl) y

/-- What case A leaves in output 5's staging buffer: its pieces read back over junk. -/
def out0_A_5 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S1x256 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case A's pieces for output 6 tile its block (1 store of `S1x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1 S1x256.size (by sl_kernel_rfl) y

/-- What case A leaves in output 6's staging buffer: its pieces read back over junk. -/
def out0_A_6 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S1x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1)

/-- Case A's pieces for output 7 tile its block (1 store of `S256x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1 S256x256.size (by sl_kernel_rfl) y

/-- What case A leaves in output 7's staging buffer: its pieces read back over junk. -/
def out0_A_7 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S256x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1)

/-- Case A's pieces for output 8 tile its block (24 stores of `S512x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S6144x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 S6144x256.size (by sl_kernel_rfl) y

/-- What case A leaves in output 8's staging buffer: its pieces read back over junk. -/
def out0_A_8 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S6144x256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1)

/-- Case A's pieces for scratch `arg10`, which the kernel carries between points, cover it: 1 piece of `S6144x256` tiling it (Lib/Ring.lean `Piece.tiledL`). -/
theorem scover0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) (y : S6144x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1 S6144x256.size (by sl_kernel_rfl) y

/-- What case A leaves in scratch `arg10`: its pieces read back over junk. -/
def sout0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : cond0_0 i)
    (x0 : Vec F S256x6144 .bf16) (x1 : Vec F S256x256 .bf16) (x2 : Vec F S6144x256 .i8) (x3 : Vec F S1x256 .f32) (x4 : Vec F S6144x256 .f32) : Vec F S6144x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1)

/-- Case B's pieces for output 5 tile its block (1 store of `S1x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1 S1x256.size (by sl_kernel_rfl) y

/-- What case B leaves in output 5's staging buffer: its pieces read back over junk. -/
def out0_B_5 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S1x256 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).1)

/-- Case B's pieces for output 6 tile its block (1 store of `S1x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1 S1x256.size (by sl_kernel_rfl) y

/-- What case B leaves in output 6's staging buffer: its pieces read back over junk. -/
def out0_B_6 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S1x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.1)

/-- Case B's pieces for output 7 tile its block (1 store of `S256x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) (y : S256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1 S256x256.size (by sl_kernel_rfl) y

/-- What case B leaves in output 7's staging buffer: its pieces read back over junk. -/
def out0_B_7 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S256x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.1)

/-- Case B's pieces for output 8 tile its block (24 stores of `S512x256`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) (y : S6144x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.2.1 S6144x256.size (by sl_kernel_rfl) y

/-- What case B leaves in output 8's staging buffer: its pieces read back over junk. -/
def out0_B_8 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S6144x256 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xs0).2.2.2.1)

/-- Case B stores nothing into scratch `arg10`: it holds what the point before left. -/
def sout0_B_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S6144x256 .i8) (harg3 : arg3.IsWhole) (arg4 : Memref sig .tc .vmem S1x256 .f32) (harg4 : arg4.IsWhole) (arg5 : Memref sig .tc .vmem S6144x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S6144x256 .f32) (harg9 : arg9.IsWhole) (arg10 : Memref sig .tc .vmem S6144x256 .bf16) (harg10 : arg10.IsWhole) (arg11 : Memref sig .tc .vmem S6144x256 .f32) (harg11 : arg11.IsWhole) (arg12 : Memref sig .tc .vmem S256x256 .f32) (harg12 : arg12.IsWhole) (hc0 : ¬cond0_0 i)
    (x0 : Vec F S256x6144 .bf16) (x1 : Vec F S256x256 .bf16) (x2 : Vec F S6144x256 .i8) (x3 : Vec F S1x256 .f32) (x4 : Vec F S6144x256 .f32) (xs0 : Vec F S6144x256 .bf16) : Vec F S6144x256 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256 .f32 × Vec F S1x256 .f32 × Vec F S256x256 .bf16 × Vec F S6144x256 .f32 × Vec F S6144x256 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 80 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2)

/-- `outsAt0` at a point of case A: that case's contents. -/
theorem outsAt0_A (c : Dev nD) (t : Fin cfg0.N) (h0 : t.val % 80 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 80 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r))

/-- Before the first point the invariant is what the launch hands over. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 80 := lt_of_lt_of_eq t.isLt (show cfg0.N = 80 from N_0)
  by_cases h0 : t.val % 80 = 0
  · by_cases hz : t.val = 0
    · rw [PhiS_castSucc m c t, PhiS_zero m c _ _ hz, PhiA0_eq]
      rw [outsAt0_A m c t h0]
      unfold out0_A_5 out0_A_6 out0_A_7 out0_A_8 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    · exfalso; have hN : t.val < 80 := lt_of_lt_of_eq t.isLt (show cfg0.N = 80 from N_0); omega
  · by_cases hz : t.val = 0
    · exfalso; have hN : t.val < 80 := lt_of_lt_of_eq t.isLt (show cfg0.N = 80 from N_0); omega
    · rw [PhiS_castSucc m c t, PhiS_pos m c _ _ hz]
      rw [outsAt0_B m c t h0]
      unfold out0_B_5 out0_B_6 out0_B_7 out0_B_8 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 80 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.KernelArr.lean ====
module

public import proofs.«01_k».proof.Proof.FrameRun
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 80 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 80 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed5, outsAt0_B m c t h0]

/-- The index map sends distinct grid points to distinct block indices (decided over the 80 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1x20480.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 80 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 80 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed6, outsAt0_B m c t h0]

/-- The index map sends distinct grid points to distinct block indices (decided over the 80 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1x20480.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 80 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 80 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed7, outsAt0_B m c t h0]

/-- The index map sends distinct grid points to distinct block indices (decided over the 80 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S256x20480.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 80 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 80 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed8, outsAt0_B m c t h0]

/-- The index map sends distinct grid points to distinct block indices (decided over the 80 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S6144x20480.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_v3_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S6144x256 .bf16) : Vec F S6144x256 .bf16 :=
  if h0 : n % 80 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `80·(t / 80)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (80 * (t.val / 80)) (t.val % 80)
      (by have h1 := t.isLt; have h2 := Nat.div_add_mod t.val 80; omega) :=
  Pipeline.eq_accAt_of_mod (fun n h => (outsAt0 m c n h).2.2.2.2) 80 (fun n h => scAt0_0 m c n h (VS0_0.read (Elt F) VS0_0.junk)) (scAt0_0 m c)
    (fun n h hn => by
      have hN := lt_of_lt_of_eq h (show cfg0.N = 80 from N_0)
      by_cases h0 : n % 80 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 80 from N_0)
      by_cases h0 : (n + 1) % 80 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 80 from N_0)
  have hd : n / 80 = 0 := Nat.div_eq_of_lt hN
  have hm : n % 80 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x256 .f32 × Vec F S1x256 .f32 × Vec F S256x256 .bf16 × Vec F S6144x256 .f32 × Vec F S6144x256 .bf16 :=
  ((VO0_5.read (Elt F) VO0_5.junk, VO0_6.read (Elt F) VO0_6.junk, VO0_7.read (Elt F) VO0_7.junk, VO0_8.read (Elt F) VO0_8.junk, VS0_0.read (Elt F) VS0_0.junk) : Vec F S1x256 .f32 × Vec F S1x256 .f32 × Vec F S256x256 .bf16 × Vec F S6144x256 .f32 × Vec F S6144x256 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x256 .f32 × Vec F S1x256 .f32 × Vec F S256x256 .bf16 × Vec F S6144x256 .f32 × Vec F S6144x256 .bf16) : Vec F S1x256 .f32 × Vec F S1x256 .f32 × Vec F S256x256 .bf16 × Vec F S6144x256 .f32 × Vec F S6144x256 .bf16 :=
  if h0 : n % 80 = 0 then
    (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2)

/-- `stAt0` at a point of case A: that case's contents. -/
theorem stAt0_A (c : Dev nD) (t : Fin cfg0.N) (acc : Vec F S1x256 .f32 × Vec F S1x256 .f32 × Vec F S256x256 .bf16 × Vec F S6144x256 .f32 × Vec F S6144x256 .bf16) (h0 : t.val % 80 = 0) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t)) :=
  (dif_pos h0).trans rfl

/-- `stAt0` at a point of case B: that case's contents, over `acc`. -/
theorem stAt0_B (c : Dev nD) (t : Fin cfg0.N) (acc : Vec F S1x256 .f32 × Vec F S1x256 .f32 × Vec F S256x256 .bf16 × Vec F S6144x256 .f32 × Vec F S6144x256 .bf16) (h0 : ¬t.val % 80 = 0) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) acc.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) acc.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) acc.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 80 from N_0)
  have e := Pipeline.eq_accAt_of_mod (fun n h => outsAt0 m c n h) 80 (fun n h => stAt0 m c n h junk0) (stAt0 m c)
    (fun n h _ => by
      have hN := lt_of_lt_of_eq h (show cfg0.N = 80 from N_0)
      obtain rfl : n = 0 := by omega
      exact outsAt0_zero m c h)
    (fun n h _ => outsAt0_succ m c n h)
    (by decide) n hn (by have := Nat.div_add_mod n 80; omega)
  have hd : n / 80 = 0 := Nat.div_eq_of_lt hN
  have hm : n % 80 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S1x20480.Idx) : ℕ := 80 * ((i 0).val / 1 - 0) + 1 * ((i 1).val / 256 - 0)
set_option backward.proofsInPublic true in
abbrev loc5Of (i : S1x20480.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt5Of (i : S1x20480.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v3_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 79
    ∧ 80 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 1) (q1 : Fin 80) : Fin grid0.N :=
  ⟨80 * q0.val + 1 * q1.val, lt_of_lt_of_eq (by omega) N_0.symm⟩
theorem idx_onto5 : ∀ (q0 : Fin 1) (q1 : Fin 80), ∃ t : Fin cfg0.N, (cfg0.win 5).flush t = true ∧ win0_5.index t = ![q0.val + 0, q1.val + 0] :=
  fun q0 q1 => ⟨onto5Pt q0 q1, (by decide +kernel : ∀ (q0 : Fin 1) (q1 : Fin 80), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 1 := (y 0).isLt
  have hy1 : (y 1).val < 256 := (y 1).isLt
  have hb0 : (((cfg0.win 5).blk t).view.emb y 0).val = win0_5.index t (0 : Fin 2) * 1 + 1 * (y 0).val := rfl
  have hb1 : (((cfg0.win 5).blk t).view.emb y 1).val = win0_5.index t (1 : Fin 2) * 256 + 1 * (y 1).val := rfl
  have hr : run5Of (((cfg0.win 5).blk t).view.emb y) = t.val := by
    show 80 * ((((cfg0.win 5).blk t).view.emb y 0).val / 1 - 0) + 1 * ((((cfg0.win 5).blk t).view.emb y 1).val / 256 - 0) = _
    rw [hb0, hb1]
    rw [show (win0_5.index t (0 : Fin 2) * 1 + 1 * (y 0).val) / 1 = win0_5.index t (0 : Fin 2) from by omega]; rw [show (win0_5.index t (1 : Fin 2) * 256 + 1 * (y 1).val) / 256 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 256 = (y 1).val; rw [hb1]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S1x20480.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v3_0).slice (win0_5.rect t)).set ↔ _
  rw [View.set_slice_whole, Rect.mem_set_unit]
  exact Iff.rfl

/-- THE COVERED INDICES: in some flushing point's block iff inside the box those blocks fill. -/
theorem covered_iff5 (i : S1x20480.Idx) :
    (∃ t : Fin cfg0.N, (cfg0.win 5).flush t = true ∧ i ∈ ((cfg0.win 5).blk t).view.set) ↔ 0 ≤ (i 0).val ∧ (i 0).val < 1 ∧ 0 ≤ (i 1).val ∧ (i 1).val < 20480 := by
  constructor
  · rintro ⟨t, -, hi⟩
    rw [mem_blk5] at hi
    have b0 : win0_5.index t (0 : Fin 2) * 1 ≤ (i 0).val ∧ (i 0).val < win0_5.index t (0 : Fin 2) * 1 + 1 := hi 0
    have b1 : win0_5.index t (1 : Fin 2) * 256 ≤ (i 1).val ∧ (i 1).val < win0_5.index t (1 : Fin 2) * 256 + 256 := hi 1
    obtain ⟨e0, e1, e2⟩ := idx_facts5 t
    omega
  · intro h
    have hi0 : (i 0).val < 1 := (i 0).isLt
    have hi1 : (i 1).val < 20480 := (i 1).isLt
    obtain ⟨t, hft, ht⟩ := idx_onto5 ⟨(i 0).val / 1 - 0, by omega⟩ ⟨(i 1).val / 256 - 0, by omega⟩
    have q0 : win0_5.index t (0 : Fin 2) = (i 0).val / 1 - 0 + 0 := congrFun ht 0
    have q1 : win0_5.index t (1 : Fin 2) = (i 1).val / 256 - 0 + 0 := congrFun ht 1
    refine ⟨t, hft, ?_⟩
    rw [mem_blk5]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 256 ≤ (i 1).val ∧ (i 1).val < win0_5.index t (1 : Fin 2) * 256 + 256; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 1 := (i 0).isLt; have h1 : (i 1).val < 20480 := (i 1).isLt; omega))

/-! ## Output window 6 -/

/-- The block of the array that holds index `i`, numbered in the order the points write the blocks back (one per point),
    `i`'s place in it, and the point that writes it back. -/
abbrev run6Of (i : S1x20480.Idx) : ℕ := 80 * ((i 0).val / 1 - 0) + 1 * ((i 1).val / 256 - 0)
set_option backward.proofsInPublic true in
abbrev loc6Of (i : S1x20480.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt6Of (i : S1x20480.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v3_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 79
    ∧ 80 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 1) (q1 : Fin 80) : Fin grid0.N :=
  ⟨80 * q0.val + 1 * q1.val, lt_of_lt_of_eq (by omega) N_0.symm⟩
theorem idx_onto6 : ∀ (q0 : Fin 1) (q1 : Fin 80), ∃ t : Fin cfg0.N, (cfg0.win 6).flush t = true ∧ win0_6.index t = ![q0.val + 0, q1.val + 0] :=
  fun q0 q1 => ⟨onto6Pt q0 q1, (by decide +kernel : ∀ (q0 : Fin 1) (q1 : Fin 80), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 1 := (y 0).isLt
  have hy1 : (y 1).val < 256 := (y 1).isLt
  have hb0 : (((cfg0.win 6).blk t).view.emb y 0).val = win0_6.index t (0 : Fin 2) * 1 + 1 * (y 0).val := rfl
  have hb1 : (((cfg0.win 6).blk t).view.emb y 1).val = win0_6.index t (1 : Fin 2) * 256 + 1 * (y 1).val := rfl
  have hr : run6Of (((cfg0.win 6).blk t).view.emb y) = t.val := by
    show 80 * ((((cfg0.win 6).blk t).view.emb y 0).val / 1 - 0) + 1 * ((((cfg0.win 6).blk t).view.emb y 1).val / 256 - 0) = _
    rw [hb0, hb1]
    rw [show (win0_6.index t (0 : Fin 2) * 1 + 1 * (y 0).val) / 1 = win0_6.index t (0 : Fin 2) from by omega]; rw [show (win0_6.index t (1 : Fin 2) * 256 + 1 * (y 1).val) / 256 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 256 = (y 1).val; rw [hb1]; omega
  have hp : pt6Of (((cfg0.win 6).blk t).view.emb y) = t.val := by
    exact hr
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1x20480.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v3_1).slice (win0_6.rect t)).set ↔ _
  rw [View.set_slice_whole, Rect.mem_set_unit]
  exact Iff.rfl

/-- THE COVERED INDICES: in some flushing point's block iff inside the box those blocks fill. -/
theorem covered_iff6 (i : S1x20480.Idx) :
    (∃ t : Fin cfg0.N, (cfg0.win 6).flush t = true ∧ i ∈ ((cfg0.win 6).blk t).view.set) ↔ 0 ≤ (i 0).val ∧ (i 0).val < 1 ∧ 0 ≤ (i 1).val ∧ (i 1).val < 20480 := by
  constructor
  · rintro ⟨t, -, hi⟩
    rw [mem_blk6] at hi
    have b0 : win0_6.index t (0 : Fin 2) * 1 ≤ (i 0).val ∧ (i 0).val < win0_6.index t (0 : Fin 2) * 1 + 1 := hi 0
    have b1 : win0_6.index t (1 : Fin 2) * 256 ≤ (i 1).val ∧ (i 1).val < win0_6.index t (1 : Fin 2) * 256 + 256 := hi 1
    obtain ⟨e0, e1, e2⟩ := idx_facts6 t
    omega
  · intro h
    have hi0 : (i 0).val < 1 := (i 0).isLt
    have hi1 : (i 1).val < 20480 := (i 1).isLt
    obtain ⟨t, hft, ht⟩ := idx_onto6 ⟨(i 0).val / 1 - 0, by omega⟩ ⟨(i 1).val / 256 - 0, by omega⟩
    have q0 : win0_6.index t (0 : Fin 2) = (i 0).val / 1 - 0 + 0 := congrFun ht 0
    have q1 : win0_6.index t (1 : Fin 2) = (i 1).val / 256 - 0 + 0 := congrFun ht 1
    refine ⟨t, hft, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 256 ≤ (i 1).val ∧ (i 1).val < win0_6.index t (1 : Fin 2) * 256 + 256; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1 := (i 0).isLt; have h1 : (i 1).val < 20480 := (i 1).isLt; omega))

/-! ## Output window 7 -/

/-- The block of the array that holds index `i`, numbered in the order the points write the blocks back (one per point),
    `i`'s place in it, and the point that writes it back. -/
abbrev run7Of (i : S256x20480.Idx) : ℕ := 80 * ((i 0).val / 256 - 0) + 1 * ((i 1).val / 256 - 0)
set_option backward.proofsInPublic true in
abbrev loc7Of (i : S256x20480.Idx) : S256x256.Idx := fun a => match a with
  | ⟨0, _⟩ => ⟨(i 0).val % 256, Nat.mod_lt _ (by decide)⟩
  | ⟨1, _⟩ => ⟨(i 1).val % 256, Nat.mod_lt _ (by decide)⟩
abbrev pt7Of (i : S256x20480.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v3_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 79
    ∧ 80 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 1) (q1 : Fin 80) : Fin grid0.N :=
  ⟨80 * q0.val + 1 * q1.val, lt_of_lt_of_eq (by omega) N_0.symm⟩
theorem idx_onto7 : ∀ (q0 : Fin 1) (q1 : Fin 80), ∃ t : Fin cfg0.N, (cfg0.win 7).flush t = true ∧ win0_7.index t = ![q0.val + 0, q1.val + 0] :=
  fun q0 q1 => ⟨onto7Pt q0 q1, (by decide +kernel : ∀ (q0 : Fin 1) (q1 : Fin 80), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 256 := (y 0).isLt
  have hy1 : (y 1).val < 256 := (y 1).isLt
  have hb0 : (((cfg0.win 7).blk t).view.emb y 0).val = win0_7.index t (0 : Fin 2) * 256 + 1 * (y 0).val := rfl
  have hb1 : (((cfg0.win 7).blk t).view.emb y 1).val = win0_7.index t (1 : Fin 2) * 256 + 1 * (y 1).val := rfl
  have hr : run7Of (((cfg0.win 7).blk t).view.emb y) = t.val := by
    show 80 * ((((cfg0.win 7).blk t).view.emb y 0).val / 256 - 0) + 1 * ((((cfg0.win 7).blk t).view.emb y 1).val / 256 - 0) = _
    rw [hb0, hb1]
    rw [show (win0_7.index t (0 : Fin 2) * 256 + 1 * (y 0).val) / 256 = win0_7.index t (0 : Fin 2) from by omega]; rw [show (win0_7.index t (1 : Fin 2) * 256 + 1 * (y 1).val) / 256 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 256 = (y 0).val; rw [hb0]; omega
    | ⟨1, _⟩ => show (((cfg0.win 7).blk t).view.emb y 1).val % 256 = (y 1).val; rw [hb1]; omega
  have hp : pt7Of (((cfg0.win 7).blk t).view.emb y) = t.val := by
    exact hr
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S256x20480.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v3_2).slice (win0_7.rect t)).set ↔ _
  rw [View.set_slice_whole, Rect.mem_set_unit]
  exact Iff.rfl

/-- THE COVERED INDICES: in some flushing point's block iff inside the box those blocks fill. -/
theorem covered_iff7 (i : S256x20480.Idx) :
    (∃ t : Fin cfg0.N, (cfg0.win 7).flush t = true ∧ i ∈ ((cfg0.win 7).blk t).view.set) ↔ 0 ≤ (i 0).val ∧ (i 0).val < 256 ∧ 0 ≤ (i 1).val ∧ (i 1).val < 20480 := by
  constructor
  · rintro ⟨t, -, hi⟩
    rw [mem_blk7] at hi
    have b0 : win0_7.index t (0 : Fin 2) * 256 ≤ (i 0).val ∧ (i 0).val < win0_7.index t (0 : Fin 2) * 256 + 256 := hi 0
    have b1 : win0_7.index t (1 : Fin 2) * 256 ≤ (i 1).val ∧ (i 1).val < win0_7.index t (1 : Fin 2) * 256 + 256 := hi 1
    obtain ⟨e0, e1, e2⟩ := idx_facts7 t
    omega
  · intro h
    have hi0 : (i 0).val < 256 := (i 0).isLt
    have hi1 : (i 1).val < 20480 := (i 1).isLt
    obtain ⟨t, hft, ht⟩ := idx_onto7 ⟨(i 0).val / 256 - 0, by omega⟩ ⟨(i 1).val / 256 - 0, by omega⟩
    have q0 : win0_7.index t (0 : Fin 2) = (i 0).val / 256 - 0 + 0 := congrFun ht 0
    have q1 : win0_7.index t (1 : Fin 2) = (i 1).val / 256 - 0 + 0 := congrFun ht 1
    refine ⟨t, hft, ?_⟩
    rw [mem_blk7]
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 256 ≤ (i 1).val ∧ (i 1).val < win0_7.index t (1 : Fin 2) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 256 := (i 0).isLt; have h1 : (i 1).val < 20480 := (i 1).isLt; omega))

/-! ## Output window 8 -/

/-- The block of the array that holds index `i`, numbered in the order the points write the blocks back (one per point),
    `i`'s place in it, and the point that writes it back. -/
abbrev run8Of (i : S6144x20480.Idx) : ℕ := 80 * ((i 0).val / 6144 - 0) + 1 * ((i 1).val / 256 - 0)
set_option backward.proofsInPublic true in
abbrev loc8Of (i : S6144x20480.Idx) : S6144x256.Idx := fun a => match a with
  | ⟨0, _⟩ => ⟨(i 0).val % 6144, Nat.mod_lt _ (by decide)⟩
  | ⟨1, _⟩ => ⟨(i 1).val % 256, Nat.mod_lt _ (by decide)⟩
abbrev pt8Of (i : S6144x20480.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v3_3) := fun i =>
  if h : pt8Of i < cfg0.N then
    (Pipeline.accAt (fun n h => stAt0 m c n h junk0) (stAt0 m c) 0 (pt8Of i) (by omega)).2.2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 79
    ∧ 80 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 1) (q1 : Fin 80) : Fin grid0.N :=
  ⟨80 * q0.val + 1 * q1.val, lt_of_lt_of_eq (by omega) N_0.symm⟩
theorem idx_onto8 : ∀ (q0 : Fin 1) (q1 : Fin 80), ∃ t : Fin cfg0.N, (cfg0.win 8).flush t = true ∧ win0_8.index t = ![q0.val + 0, q1.val + 0] :=
  fun q0 q1 => ⟨onto8Pt q0 q1, (by decide +kernel : ∀ (q0 : Fin 1) (q1 : Fin 80), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 6144 := (y 0).isLt
  have hy1 : (y 1).val < 256 := (y 1).isLt
  have hb0 : (((cfg0.win 8).blk t).view.emb y 0).val = win0_8.index t (0 : Fin 2) * 6144 + 1 * (y 0).val := rfl
  have hb1 : (((cfg0.win 8).blk t).view.emb y 1).val = win0_8.index t (1 : Fin 2) * 256 + 1 * (y 1).val := rfl
  have hr : run8Of (((cfg0.win 8).blk t).view.emb y) = t.val := by
    show 80 * ((((cfg0.win 8).blk t).view.emb y 0).val / 6144 - 0) + 1 * ((((cfg0.win 8).blk t).view.emb y 1).val / 256 - 0) = _
    rw [hb0, hb1]
    rw [show (win0_8.index t (0 : Fin 2) * 6144 + 1 * (y 0).val) / 6144 = win0_8.index t (0 : Fin 2) from by omega]; rw [show (win0_8.index t (1 : Fin 2) * 256 + 1 * (y 1).val) / 256 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 6144 = (y 0).val; rw [hb0]; omega
    | ⟨1, _⟩ => show (((cfg0.win 8).blk t).view.emb y 1).val % 256 = (y 1).val; rw [hb1]; omega
  have hp : pt8Of (((cfg0.win 8).blk t).view.emb y) = t.val := by
    exact hr
  show (Pipeline.accAt (fun n h => stAt0 m c n h junk0) (stAt0 m c) 0 t.val _).2.2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S6144x20480.Idx) :
    i ∈ ((cfg0.win 8).blk t).view.set ↔ ∀ a : Fin 2, win0_8.index t a * S6144x256.size a ≤ (i a).val ∧ (i a).val < win0_8.index t a * S6144x256.size a + S6144x256.size a := by
  show i ∈ ((View.whole main_v3_3).slice (win0_8.rect t)).set ↔ _
  rw [View.set_slice_whole, Rect.mem_set_unit]
  exact Iff.rfl

/-- THE COVERED INDICES: in some flushing point's block iff inside the box those blocks fill. -/
theorem covered_iff8 (i : S6144x20480.Idx) :
    (∃ t : Fin cfg0.N, (cfg0.win 8).flush t = true ∧ i ∈ ((cfg0.win 8).blk t).view.set) ↔ 0 ≤ (i 0).val ∧ (i 0).val < 6144 ∧ 0 ≤ (i 1).val ∧ (i 1).val < 20480 := by
  constructor
  · rintro ⟨t, -, hi⟩
    rw [mem_blk8] at hi
    have b0 : win0_8.index t (0 : Fin 2) * 6144 ≤ (i 0).val ∧ (i 0).val < win0_8.index t (0 : Fin 2) * 6144 + 6144 := hi 0
    have b1 : win0_8.index t (1 : Fin 2) * 256 ≤ (i 1).val ∧ (i 1).val < win0_8.index t (1 : Fin 2) * 256 + 256 := hi 1
    obtain ⟨e0, e1, e2⟩ := idx_facts8 t
    omega
  · intro h
    have hi0 : (i 0).val < 6144 := (i 0).isLt
    have hi1 : (i 1).val < 20480 := (i 1).isLt
    obtain ⟨t, hft, ht⟩ := idx_onto8 ⟨(i 0).val / 6144 - 0, by omega⟩ ⟨(i 1).val / 256 - 0, by omega⟩
    have q0 : win0_8.index t (0 : Fin 2) = (i 0).val / 6144 - 0 + 0 := congrFun ht 0
    have q1 : win0_8.index t (1 : Fin 2) = (i 1).val / 256 - 0 + 0 := congrFun ht 1
    refine ⟨t, hft, ?_⟩
    rw [mem_blk8]
    intro a
    match a with
    | ⟨0, _⟩ => show win0_8.index t (0 : Fin 2) * 6144 ≤ (i 0).val ∧ (i 0).val < win0_8.index t (0 : Fin 2) * 6144 + 6144; omega
    | ⟨1, _⟩ => show win0_8.index t (1 : Fin 2) * 256 ≤ (i 1).val ∧ (i 1).val < win0_8.index t (1 : Fin 2) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 6144 := (i 0).isLt; have h1 : (i 1).val < 20480 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G5 m c
      ∧ r.2.mem ((c : Thread nD τ).loc main_v3_1) = G6 m c
      ∧ r.2.mem ((c : Thread nD τ).loc main_v3_2) = G7 m c
      ∧ r.2.mem ((c : Thread nD τ).loc main_v3_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c⟩)
    (run_main m ρ)

end Cert.KernelIdeal.Hand

end
-- ==== Proof.KernelVal.lean ====
module

public import proofs.«01_k».proof.Proof.KernelArr
public import Idealize.ShloMosaic.Lib.ValueIdxCore

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F] [Named F]
variable (m : (ℓ : Loc nD τ sig) → Buf (Elt F) ℓ)

/-- What the outputs and the carried transpose hold after point `t`, when the transpose was made of `x`. -/
def ptOut (c : Dev nD) (t : Fin cfg0.N) (xs : Vec F S6144x256 .bf16) :
    Vec F S1x256 .f32 × Vec F S1x256 .f32 × Vec F S256x256 .bf16 × Vec F S6144x256 .f32 × Vec F S6144x256 .bf16 :=
  (out5 (iblk m c 0 t) (iblk m c 1 t) (iblk m c 2 t) (iblk m c 3 t) (iblk m c 4 t), out6 (iblk m c 4 t),
    out7 (iblk m c 0 t) (iblk m c 1 t) (iblk m c 2 t) (iblk m c 3 t) (iblk m c 4 t),
    out8 xs (iblk m c 0 t) (iblk m c 1 t) (iblk m c 2 t) (iblk m c 3 t) (iblk m c 4 t), xs)

/-- The first point leaves the outputs of its blocks and the transpose of its first block. -/
theorem outs_A (c : Dev nD) (t : Fin cfg0.N) (h0 : t.val % 80 = 0) :
    outsAt0 m c t.val t.isLt = ptOut m c t (k0_pay9 (iblk m c 0 t)) := by
  rw [outsAt0_A m c t h0]
  simp only [ptOut, Prod.mk.injEq]
  refine ⟨?_, ?_, ?_, ?_, ?_⟩
  · unfold out0_A_5 kernelRun0_A; exact View.read_writes_full _ _ inb_S1x256_S1x256_0_0 _ []
  · unfold out0_A_6 kernelRun0_A; exact View.read_writes_full _ _ inb_S1x256_S1x256_0_0 _ []
  · unfold out0_A_7 kernelRun0_A; exact View.read_writes_full _ _ inb_S256x256_S256x256_0_0 _ []
  · unfold out0_A_8 kernelRun0_A; exact View.read_writes_full _ _ inb_S6144x256_S6144x256_0_0 _ []
  · unfold sout0_A_0 kernelRun0_A; exact View.read_writes_full _ _ inb_S6144x256_S6144x256_0_0 _ []

/-- A later point leaves the outputs of its blocks and of the transpose it finds, which it keeps. -/
theorem outs_B (c : Dev nD) (t : Fin cfg0.N) (h0 : ¬t.val % 80 = 0) :
    outsAt0 m c t.val t.isLt = ptOut m c t (outsAt0 m c (t.val - 1) (by have := t.isLt; omega)).2.2.2.2 := by
  rw [outsAt0_B m c t h0]
  simp only [ptOut, Prod.mk.injEq]
  refine ⟨?_, ?_, ?_, ?_, ?_⟩
  · unfold out0_B_5 kernelRun0_B; exact View.read_writes_full _ _ inb_S1x256_S1x256_0_0 _ []
  · unfold out0_B_6 kernelRun0_B; exact View.read_writes_full _ _ inb_S1x256_S1x256_0_0 _ []
  · unfold out0_B_7 kernelRun0_B; exact View.read_writes_full _ _ inb_S256x256_S256x256_0_0 _ []
  · unfold out0_B_8 kernelRun0_B; exact View.read_writes_full _ _ inb_S6144x256_S6144x256_0_0 _ []
  · rfl

/-- After every point the outputs hold the values of the point's blocks and of the transpose made at the first point. -/
theorem outs_all (c : Dev nD) (n : ℕ) (hn : n < cfg0.N) :
    outsAt0 m c n hn = ptOut m c ⟨n, hn⟩ (k0_pay9 (iblk m c 0 ⟨0, lt_of_le_of_lt (Nat.zero_le n) hn⟩)) := by
  induction n with
  | zero => exact outs_A m c ⟨0, hn⟩ (Nat.zero_mod _)
  | succ n ih =>
    have hN := lt_of_lt_of_eq hn (show cfg0.N = 80 from N_0)
    have h := outs_B m c ⟨n + 1, hn⟩ (by show ¬(n + 1) % 80 = 0; omega)
    have e : outsAt0 m c ((⟨n + 1, hn⟩ : Fin cfg0.N).val - 1) (by have := hn; show n + 1 - 1 < cfg0.N; omega)
        = ptOut m c ⟨n, by omega⟩ (k0_pay9 (iblk m c 0 ⟨0, by omega⟩)) := ih (by omega)
    rw [e] at h
    exact h

/-! ## The four results at an index -/

variable (c : Dev nD)

/-- The point that writes column `n`'s block. -/
def ptOf (n : Fin 20480) : Fin cfg0.N := ⟨n.val / 256, lt_of_lt_of_eq (by omega) N_0.symm⟩
/-- A column's place in its block. -/
def colOf (n : Fin 20480) : Fin 256 := ⟨n.val % 256, by omega⟩
/-- The first point. -/
def pt0 : Fin cfg0.N := ⟨0, lt_of_lt_of_eq (by omega) N_0.symm⟩

/-- The fold over the points, at a point, is what the point leaves. -/
theorem sweep_at (n : ℕ) (hn : n < cfg0.N) (h : 0 + n < cfg0.N) :
    Pipeline.accAt (fun n h => stAt0 m c n h junk0) (stAt0 m c) 0 n h = ptOut m c ⟨n, hn⟩ (k0_pay9 (iblk m c 0 pt0)) :=
  (outsAt0_sweep m c n hn).symm.trans (outs_all m c n hn)

/-- The point that writes a column's block is the column's point. -/
theorem pt_eq (a : Fin 1) (n : Fin 20480) : 80 * (a.val / 1 - 0) + 1 * (n.val / 256 - 0) = (ptOf n).val := by
  show _ = n.val / 256
  omega

/-- The reconstruction result at a column: the column's entry of its point's block. -/
theorem G5_apply (n : Fin 20480) : G5 m c (ix2 0 n) =
    out5 (iblk m c 0 (ptOf n)) (iblk m c 1 (ptOf n)) (iblk m c 2 (ptOf n)) (iblk m c 3 (ptOf n)) (iblk m c 4 (ptOf n)) (ix2 0 (colOf n)) := by
  have hp : pt5Of (ix2 0 n) = (ptOf n).val := pt_eq 0 n
  have hlt : pt5Of (ix2 0 n) < cfg0.N := by rw [hp]; exact (ptOf n).isLt
  have e : (⟨pt5Of (ix2 0 n), hlt⟩ : Fin cfg0.N) = ptOf n := Fin.ext hp
  have hl : loc5Of (ix2 0 n) = ix2 0 (colOf n) := by funext a; match a with | ⟨0, _⟩ => rfl | ⟨1, _⟩ => rfl
  unfold G5
  rw [dif_pos hlt, sweep_at m c _ hlt, e, hl]
  rfl

/-- The regularizer result at a column. -/
theorem G6_apply (n : Fin 20480) : G6 m c (ix2 0 n) = out6 (iblk m c 4 (ptOf n)) (ix2 0 (colOf n)) := by
  have hp : pt6Of (ix2 0 n) = (ptOf n).val := pt_eq 0 n
  have hlt : pt6Of (ix2 0 n) < cfg0.N := by rw [hp]; exact (ptOf n).isLt
  have e : (⟨pt6Of (ix2 0 n), hlt⟩ : Fin cfg0.N) = ptOf n := Fin.ext hp
  have hl : loc6Of (ix2 0 n) = ix2 0 (colOf n) := by funext a; match a with | ⟨0, _⟩ => rfl | ⟨1, _⟩ => rfl
  unfold G6
  rw [dif_pos hlt, sweep_at m c _ hlt, e, hl]
  rfl

/-- The residual result at a row and a column. -/
theorem G7_apply (r : Fin 256) (n : Fin 20480) : G7 m c (ix2 r n) =
    out7 (iblk m c 0 (ptOf n)) (iblk m c 1 (ptOf n)) (iblk m c 2 (ptOf n)) (iblk m c 3 (ptOf n)) (iblk m c 4 (ptOf n)) (ix2 r (colOf n)) := by
  have hp : pt7Of (ix2 r n) = (ptOf n).val := by
    have := r.isLt
    show 80 * (r.val / 256 - 0) + 1 * (n.val / 256 - 0) = n.val / 256
    omega
  have hlt : pt7Of (ix2 r n) < cfg0.N := by rw [hp]; exact (ptOf n).isLt
  have e : (⟨pt7Of (ix2 r n), hlt⟩ : Fin cfg0.N) = ptOf n := Fin.ext hp
  have hl : loc7Of (ix2 r n) = ix2 r (colOf n) := by
    funext a
    match a with
    | ⟨0, _⟩ => exact Fin.ext (Nat.mod_eq_of_lt r.isLt)
    | ⟨1, _⟩ => rfl
  unfold G7
  rw [dif_pos hlt, sweep_at m c _ hlt, e, hl]
  rfl

/-- The gradient result at a row and a column. -/
theorem G8_apply (r : Fin 6144) (n : Fin 20480) : G8 m c (ix2 r n) =
    out8 (k0_pay9 (iblk m c 0 pt0)) (iblk m c 0 (ptOf n)) (iblk m c 1 (ptOf n)) (iblk m c 2 (ptOf n)) (iblk m c 3 (ptOf n)) (iblk m c 4 (ptOf n)) (ix2 r (colOf n)) := by
  have hp : pt8Of (ix2 r n) = (ptOf n).val := by
    have := r.isLt
    show 80 * (r.val / 6144 - 0) + 1 * (n.val / 256 - 0) = n.val / 256
    omega
  have hlt : pt8Of (ix2 r n) < cfg0.N := by rw [hp]; exact (ptOf n).isLt
  have e : (⟨pt8Of (ix2 r n), hlt⟩ : Fin cfg0.N) = ptOf n := Fin.ext hp
  have hl : loc8Of (ix2 r n) = ix2 r (colOf n) := by
    funext a
    match a with
    | ⟨0, _⟩ => exact Fin.ext (Nat.mod_eq_of_lt r.isLt)
    | ⟨1, _⟩ => rfl
  unfold G8
  rw [dif_pos hlt, sweep_at m c _ hlt, e, hl]
  rfl

/-! ## The input blocks as columns of the arrays -/

/-- The block index of input window 0 at every point. -/
theorem idx0 : ∀ t : Fin cfg0.N, win0_0.index t (0 : Fin 2) = 0 ∧ win0_0.index t (1 : Fin 2) = 0 :=
  (by decide +kernel : ∀ t : Fin grid0.N, _)
/-- The block index of input window 1 at every point. -/
theorem idx1 : ∀ t : Fin cfg0.N, win0_1.index t (0 : Fin 2) = 0 ∧ win0_1.index t (1 : Fin 2) = t.val :=
  (by decide +kernel : ∀ t : Fin grid0.N, _)
/-- The block index of input window 2 at every point. -/
theorem idx2 : ∀ t : Fin cfg0.N, win0_2.index t (0 : Fin 2) = 0 ∧ win0_2.index t (1 : Fin 2) = t.val :=
  (by decide +kernel : ∀ t : Fin grid0.N, _)
/-- The block index of input window 3 at every point. -/
theorem idx3 : ∀ t : Fin cfg0.N, win0_3.index t (0 : Fin 2) = 0 ∧ win0_3.index t (1 : Fin 2) = t.val :=
  (by decide +kernel : ∀ t : Fin grid0.N, _)
/-- The block index of input window 4 at every point. -/
theorem idx4 : ∀ t : Fin cfg0.N, win0_4.index t (0 : Fin 2) = 0 ∧ win0_4.index t (1 : Fin 2) = t.val :=
  (by decide +kernel : ∀ t : Fin grid0.N, _)

/-- Every point's first block is the whole input array. -/
theorem iblk0_apply (t : Fin cfg0.N) (a : Fin 256) (b : Fin 6144) : iblk m c 0 t (ix2 a b) = V m c main_v0 (ix2 a b) := by
  obtain ⟨e0, e1⟩ := idx0 t
  show V m c main_v0 (((cfg0.win 0).blk t).view.emb (ix2 a b)) = _
  refine congrArg _ (funext fun x => Fin.ext ?_)
  match x with
  | ⟨0, _⟩ => show win0_0.index t (0 : Fin 2) * 256 + 1 * a.val = a.val; rw [e0]; omega
  | ⟨1, _⟩ => show win0_0.index t (1 : Fin 2) * 6144 + 1 * b.val = b.val; rw [e1]; omega

/-- A column of the target's block is the column of the target array. -/
theorem iblk1_apply (n : Fin 20480) (a : Fin 256) : iblk m c 1 (ptOf n) (ix2 a (colOf n)) = V m c main_v1 (ix2 a n) := by
  obtain ⟨e0, e1⟩ := idx1 (ptOf n)
  show V m c main_v1 (((cfg0.win 1).blk (ptOf n)).view.emb (ix2 a (colOf n))) = _
  refine congrArg _ (funext fun x => Fin.ext ?_)
  match x with
  | ⟨0, _⟩ => show win0_1.index (ptOf n) (0 : Fin 2) * 256 + 1 * a.val = a.val; rw [e0]; omega
  | ⟨1, _⟩ => show win0_1.index (ptOf n) (1 : Fin 2) * 256 + 1 * (n.val % 256) = n.val; rw [e1]; show n.val / 256 * 256 + _ = _; omega

/-- A column of the weight's block is the column of the weight array. -/
theorem iblk2_apply (n : Fin 20480) (a : Fin 6144) : iblk m c 2 (ptOf n) (ix2 a (colOf n)) = V m c main_arg2 (ix2 a n) := by
  obtain ⟨e0, e1⟩ := idx2 (ptOf n)
  show V m c main_arg2 (((cfg0.win 2).blk (ptOf n)).view.emb (ix2 a (colOf n))) = _
  refine congrArg _ (funext fun x => Fin.ext ?_)
  match x with
  | ⟨0, _⟩ => show win0_2.index (ptOf n) (0 : Fin 2) * 6144 + 1 * a.val = a.val; rw [e0]; omega
  | ⟨1, _⟩ => show win0_2.index (ptOf n) (1 : Fin 2) * 256 + 1 * (n.val % 256) = n.val; rw [e1]; show n.val / 256 * 256 + _ = _; omega

/-- A column of the scale's block is the column of the scale array. -/
theorem iblk3_apply (n : Fin 20480) (a : Fin 1) : iblk m c 3 (ptOf n) (ix2 a (colOf n)) = V m c main_v2 (ix2 a n) := by
  obtain ⟨e0, e1⟩ := idx3 (ptOf n)
  show V m c main_v2 (((cfg0.win 3).blk (ptOf n)).view.emb (ix2 a (colOf n))) = _
  refine congrArg _ (funext fun x => Fin.ext ?_)
  match x with
  | ⟨0, _⟩ => show win0_3.index (ptOf n) (0 : Fin 2) * 1 + 1 * a.val = a.val; rw [e0]; omega
  | ⟨1, _⟩ => show win0_3.index (ptOf n) (1 : Fin 2) * 256 + 1 * (n.val % 256) = n.val; rw [e1]; show n.val / 256 * 256 + _ = _; omega

/-- A column of the rounding variable's block is the column of its array. -/
theorem iblk4_apply (n : Fin 20480) (a : Fin 6144) : iblk m c 4 (ptOf n) (ix2 a (colOf n)) = V m c main_arg4 (ix2 a n) := by
  obtain ⟨e0, e1⟩ := idx4 (ptOf n)
  show V m c main_arg4 (((cfg0.win 4).blk (ptOf n)).view.emb (ix2 a (colOf n))) = _
  refine congrArg _ (funext fun x => Fin.ext ?_)
  match x with
  | ⟨0, _⟩ => show win0_4.index (ptOf n) (0 : Fin 2) * 6144 + 1 * a.val = a.val; rw [e0]; omega
  | ⟨1, _⟩ => show win0_4.index (ptOf n) (1 : Fin 2) * 256 + 1 * (n.val % 256) = n.val; rw [e1]; show n.val / 256 * 256 + _ = _; omega

end Cert.KernelIdeal.Hand

end
-- ==== Proof.Consts.lean ====
module

public import proofs.«01_k».proof.Defs
public import Idealize.ShloMosaic.PureOps.Ideal

@[expose] public section

noncomputable section

namespace Cert.Consts

open Idealize.ShloMosaic

/-- The pattern of zero denotes zero. -/
theorem f0 : Ideal.ofBits .f32 0x00000000#32 = 0 := by
  simp [Ideal.ofBits, Ideal.ieee]
/-- The pattern of one denotes one. -/
theorem f1 : Ideal.ofBits .f32 0x3F800000#32 = ((1 : ℝ) : EReal) := by
  simp [Ideal.ofBits, Ideal.ieee, -EReal.coe_mul]; norm_num
/-- The pattern of two denotes two. -/
theorem f2 : Ideal.ofBits .f32 0x40000000#32 = ((2 : ℝ) : EReal) := by
  simp [Ideal.ofBits, Ideal.ieee, -EReal.coe_mul]; norm_num
/-- The pattern of seven denotes seven. -/
theorem f7 : Ideal.ofBits .f32 0x40E00000#32 = ((7 : ℝ) : EReal) := by
  simp [Ideal.ofBits, Ideal.ieee, -EReal.coe_mul]; norm_num
/-- The pattern of minus eight denotes minus eight. -/
theorem fm8 : Ideal.ofBits .f32 0xC1000000#32 = ((-8 : ℝ) : EReal) := by
  simp [Ideal.ofBits, Ideal.ieee, -EReal.coe_mul]; norm_num
/-- The pattern of a quarter denotes a quarter. -/
theorem f14 : Ideal.ofBits .f32 0x3E800000#32 = ((1 / 4 : ℝ) : EReal) := by
  simp [Ideal.ofBits, Ideal.ieee, -EReal.coe_mul]; norm_num
/-- The pattern of a half denotes a half. -/
theorem f12 : Ideal.ofBits .f32 0x3F000000#32 = ((1 / 2 : ℝ) : EReal) := by
  simp [Ideal.ofBits, Ideal.ieee, -EReal.coe_mul]; norm_num
/-- The pattern of minus a half denotes minus a half. -/
theorem fm12 : Ideal.ofBits .f32 0xBF000000#32 = ((-1 / 2 : ℝ) : EReal) := by
  simp [Ideal.ofBits, Ideal.ieee, -EReal.coe_mul]; norm_num
/-- The bf16 pattern of a half denotes a half. -/
theorem b12 : Ideal.ofBits .bf16 0x3F00#16 = ((1 / 2 : ℝ) : EReal) := by
  simp [Ideal.ofBits, Ideal.ieee, -EReal.coe_mul]; norm_num
/-- The pattern of 256 denotes 256. -/
theorem f256 : Ideal.ofBits .f32 0x43800000#32 = ((256 : ℝ) : EReal) := by
  simp [Ideal.ofBits, Ideal.ieee, -EReal.coe_mul]; norm_num
/-- The pattern of 6144 denotes 6144. -/
theorem f6144 : Ideal.ofBits .f32 0x45C00000#32 = ((6144 : ℝ) : EReal) := by
  simp [Ideal.ofBits, Ideal.ieee, -EReal.coe_mul]; norm_num
/-- The pattern of -1/128 denotes -1/128. -/
theorem fm128 : Ideal.ofBits .f32 0xBC000000#32 = ((-1 / 128 : ℝ) : EReal) := by
  simp [Ideal.ofBits, Ideal.ieee, -EReal.coe_mul]; norm_num

/-! The named constants of the kernel. -/

/-- The kernel's named constant `rec_grad` is -5/768. -/
theorem k_rec_grad : Named.named (F := Ideal) Cert.KernelIdeal.κ "rec_grad" (φ := .f32) 0xBBD55555#32 = ((-5 / 768 : ℝ) : EReal) :=
  IdealRules.named_const.ideal_named_scalar _ _ _ _ rfl
/-- The kernel's named constant `half_stretch` is 3/5. -/
theorem k_half_stretch : Named.named (F := Ideal) Cert.KernelIdeal.κ "half_stretch" (φ := .f32) 0x3F19999A#32 = ((3 / 5 : ℝ) : EReal) :=
  IdealRules.named_const.ideal_named_scalar _ _ _ _ rfl
/-- The kernel's named constant `reg_weight` is 1/6144. -/
theorem k_reg_weight : Named.named (F := Ideal) Cert.KernelIdeal.κ "reg_weight" (φ := .f32) 0x392AAAAB#32 = ((1 / 6144 : ℝ) : EReal) :=
  IdealRules.named_const.ideal_named_scalar _ _ _ _ rfl
/-- The kernel's named constant `a_sq_max` is 9/25. -/
theorem k_a_sq_max : Named.named (F := Ideal) Cert.KernelIdeal.κ "a_sq_max" (φ := .f32) 0x3EB851EC#32 = ((9 / 25 : ℝ) : EReal) :=
  IdealRules.named_const.ideal_named_scalar _ _ _ _ rfl
/-- The kernel's named constant `reg_grad` is -5/18. -/
theorem k_reg_grad : Named.named (F := Ideal) Cert.KernelIdeal.κ "reg_grad" (φ := .f32) 0xBE8E38E4#32 = ((-5 / 18 : ℝ) : EReal) :=
  IdealRules.named_const.ideal_named_scalar _ _ _ _ rfl

/-! The named constants of the reference. -/

/-- The reference's named constant `stretch` is 6/5. -/
theorem r_stretch : Named.named (F := Ideal) Cert.ReferenceIdeal.κ "stretch" (φ := .f32) 0x3F99999A#32 = ((6 / 5 : ℝ) : EReal) :=
  IdealRules.named_const.ideal_named_scalar _ _ _ _ rfl
/-- The reference's named constant `gamma` is -1/10. -/
theorem r_gamma : Named.named (F := Ideal) Cert.ReferenceIdeal.κ "gamma" (φ := .f32) 0xBDCCCCCD#32 = ((-1 / 10 : ℝ) : EReal) :=
  IdealRules.named_const.ideal_named_scalar _ _ _ _ rfl
/-- The reference's named constant `reg_weight` is 1/6144. -/
theorem r_reg_weight : Named.named (F := Ideal) Cert.ReferenceIdeal.κ "reg_weight" (φ := .f32) 0x392AAAAB#32 = ((1 / 6144 : ℝ) : EReal) :=
  IdealRules.named_const.ideal_named_scalar _ _ _ _ rfl
/-- The reference's named constant `reg_slope` is -1/384. -/
theorem r_reg_slope : Named.named (F := Ideal) Cert.ReferenceIdeal.κ "reg_slope" (φ := .f32) 0xBB2AAAAB#32 = ((-1 / 384 : ℝ) : EReal) :=
  IdealRules.named_const.ideal_named_scalar _ _ _ _ rfl

end Cert.Consts

end
-- ==== Proof.Scalar.lean ====
module

public import Idealize.ShloMosaic.PureOps.Ideal

@[expose] public section

noncomputable section

/-! The scalar functions of the two programs as functions of extended reals, and the identities between them. -/

namespace Cert.Spec

open Idealize.ShloMosaic

/-- The stretched sigmoid, before it is clipped. -/
def tOf (v : EReal) : EReal := Ideal.logistic v * ((6 / 5 : ℝ) : EReal) + ((-1 / 10 : ℝ) : EReal)
/-- The rectified sigmoid. -/
def hOf (v : EReal) : EReal := min ((1 : ℝ) : EReal) (max 0 (tOf v))
/-- The relaxed integer: the rounded weight plus the rectified sigmoid. -/
def qOf (w : BitVec 8) (v : EReal) : EReal := ((w.toInt : ℝ) : EReal) + hOf v
/-- The dequantized weight: the scale times the relaxed integer clipped to the grid. -/
def whatOf (s : EReal) (w : BitVec 8) (v : EReal) : EReal := s * min ((7 : ℝ) : EReal) (max ((-8 : ℝ) : EReal) (qOf w v))
/-- Twice the rectified sigmoid minus one. -/
def uOf (v : EReal) : EReal := ((2 : ℝ) : EReal) * hOf v - ((1 : ℝ) : EReal)
/-- The eighth power of `uOf`, by squarings. -/
def u8Of (v : EReal) : EReal := ((uOf v * uOf v) * (uOf v * uOf v)) * ((uOf v * uOf v) * (uOf v * uOf v))
/-- The seventh power of `uOf`. -/
def u7Of (v : EReal) : EReal := (((uOf v * uOf v) * (uOf v * uOf v)) * (uOf v * uOf v)) * uOf v
open Classical in
/-- The derivative of the rectified sigmoid. -/
def dhOf (v : EReal) : EReal :=
  if 0 < tOf v ∧ tOf v < ((1 : ℝ) : EReal) then (((6 / 5 : ℝ) : EReal) * Ideal.logistic v) * (((1 : ℝ) : EReal) - Ideal.logistic v) else 0
open Classical in
/-- One entry of the gradient, from the correlation `g` of the inputs with the residual. -/
def dvOf (g s : EReal) (w : BitVec 8) (v : EReal) : EReal :=
  ((if qOf w v ≤ ((7 : ℝ) : EReal) then (((-1 / 128 : ℝ) : EReal) * g) * s else 0) + ((-1 / 384 : ℝ) : EReal) * u7Of v) * dhOf v

/-! The kernel's forms. -/

/-- The kernel's centred rectified sigmoid: the clipped, stretched hyperbolic tangent of half the argument. -/
def aOf (v : EReal) : EReal :=
  min (max (((3 / 5 : ℝ) : EReal) * Ideal.tanh (((1 / 2 : ℝ) : EReal) * v)) ((-1 / 2 : ℝ) : EReal)) ((1 / 2 : ℝ) : EReal)
/-- The kernel's relaxed integer. -/
def qkOf (w : BitVec 8) (v : EReal) : EReal := (((w.toInt : ℝ) : EReal) + ((1 / 2 : ℝ) : EReal)) + aOf v
/-- The kernel's dequantized weight, clipped after it is scaled. -/
def wkOf (s : EReal) (w : BitVec 8) (v : EReal) : EReal :=
  min (max (s * ((-8 : ℝ) : EReal)) (s * ((7 : ℝ) : EReal)))
    (max (min (s * ((-8 : ℝ) : EReal)) (s * ((7 : ℝ) : EReal))) (s * qkOf w v))
/-- The kernel's eighth power. -/
def a8Of (v : EReal) : EReal := ((aOf v * aOf v) * (aOf v * aOf v)) * ((aOf v * aOf v) * (aOf v * aOf v))
open Classical in
/-- The kernel's masked scale. -/
def csOf (s : EReal) (w : BitVec 8) (v : EReal) : EReal :=
  if qkOf w v ≤ ((7 : ℝ) : EReal) then s * ((-5 / 768 : ℝ) : EReal) else 0
open Classical in
/-- The kernel's entry of the gradient, from the centred sigmoid `a` and the masked scale `cs`. -/
def dkOf (g a cs : EReal) : EReal :=
  (if a * a < ((1 / 4 : ℝ) : EReal) then ((9 / 25 : ℝ) : EReal) - a * a else 0)
    * (cs * g + ((-5 / 18 : ℝ) : EReal) * (((a * a) * (a * a)) * ((a * a) * a)))

/-- The sigmoid of any extended real is a real, and the hyperbolic tangent of its half is twice that minus one. -/
theorem sig_tanh (v : EReal) : ∃ σ : ℝ, Ideal.logistic v = (σ : EReal) ∧
    Ideal.tanh (((1 / 2 : ℝ) : EReal) * v) = ((2 * σ - 1 : ℝ) : EReal) := by
  induction v with
  | bot =>
    refine ⟨0, by simp, ?_⟩
    rw [EReal.coe_mul_bot_of_pos (by norm_num)]
    simp only [Ideal.tanh_bot]; norm_num
  | top =>
    refine ⟨1, by simp, ?_⟩
    rw [EReal.coe_mul_top_of_pos (by norm_num)]
    simp only [Ideal.tanh_top]; norm_num
  | coe r =>
    refine ⟨(1 + Real.exp (-r))⁻¹, by simp, ?_⟩
    rw [← EReal.coe_mul, Ideal.tanh_coe, EReal.coe_eq_coe_iff, Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = x at *
    generalize Real.exp (-(1 / 2 * r)) = y at *
    have hy : x = y⁻¹ := eq_inv_of_mul_eq_one_left e2
    subst hy
    field_simp
    ring

/-- The rectified sigmoid of a real sigmoid value. -/
def hR (σ : ℝ) : ℝ := min 1 (max 0 (σ * (6 / 5) + -1 / 10))

/-- The stretched sigmoid, where the sigmoid is the real `σ`. -/
theorem tOf_eq {v : EReal} {σ : ℝ} (h : Ideal.logistic v = (σ : EReal)) : tOf v = ((σ * (6 / 5) + -1 / 10 : ℝ) : EReal) := by
  rw [tOf, h, ← EReal.coe_mul, ← EReal.coe_add]

/-- The maximum of two reals is the same among extended reals. -/
theorem coe_max (x y : ℝ) : max (x : EReal) (y : EReal) = ((max x y : ℝ) : EReal) :=
  (EReal.coe_strictMono.monotone.map_max).symm

/-- The minimum of two reals is the same among extended reals. -/
theorem coe_min (x y : ℝ) : min (x : EReal) (y : EReal) = ((min x y : ℝ) : EReal) :=
  (EReal.coe_strictMono.monotone.map_min).symm

/-- The rectified sigmoid, where the sigmoid is the real `σ`. -/
theorem hOf_eq {v : EReal} {σ : ℝ} (h : Ideal.logistic v = (σ : EReal)) : hOf v = ((hR σ : ℝ) : EReal) := by
  rw [hOf, tOf_eq h, ← EReal.coe_zero, coe_max, coe_min, hR]

/-- The kernel's centred offset, where the hyperbolic tangent is `2σ - 1`. -/
theorem aOf_eq {v : EReal} {σ : ℝ} (h : Ideal.tanh (((1 / 2 : ℝ) : EReal) * v) = ((2 * σ - 1 : ℝ) : EReal)) :
    aOf v = ((hR σ - 1 / 2 : ℝ) : EReal) := by
  rw [aOf, h, ← EReal.coe_mul, coe_max, coe_min, EReal.coe_eq_coe_iff, hR]
  rcases le_total (3 / 5 * (2 * σ - 1)) (-1 / 2) with h1 | h1
  · rw [max_eq_right h1, max_eq_left (by linarith), min_eq_left (by norm_num), min_eq_right (by norm_num)]; norm_num
  · rw [max_eq_left h1, max_eq_right (by linarith)]
    rcases le_total (3 / 5 * (2 * σ - 1)) (1 / 2) with h2 | h2
    · rw [min_eq_left h2, min_eq_right (by linarith)]; ring
    · rw [min_eq_right h2, min_eq_left (by linarith)]; norm_num

/-- The kernel's relaxed integer is the reference's. -/
theorem qkOf_eq (w : BitVec 8) (v : EReal) : qkOf w v = qOf w v := by
  obtain ⟨σ, h1, h2⟩ := sig_tanh v
  rw [qkOf, qOf, hOf_eq h1, aOf_eq h2, ← EReal.coe_add, ← EReal.coe_add, ← EReal.coe_add, EReal.coe_eq_coe_iff]
  ring

/-- Scaling by a nonnegative number is monotone. -/
theorem mul_mono {s : EReal} (hs : 0 ≤ s) : Monotone fun x : EReal => s * x :=
  fun _ _ h => mul_le_mul_of_nonneg_left h hs

/-- Scaling by a nonpositive number is antitone. -/
theorem mul_anti {s : EReal} (hs : s ≤ 0) : Antitone fun x : EReal => s * x := by
  intro x y h
  have := mul_mono (s := -s) (by rwa [EReal.neg_nonneg]) h
  simp only [EReal.neg_mul, EReal.neg_le_neg_iff] at this
  exact this

/-- Clipping the scaled integer between the scaled grid ends is scaling the clipped integer. -/
theorem wkOf_eq (s : EReal) (w : BitVec 8) (v : EReal) : wkOf s w v = whatOf s w v := by
  rw [wkOf, whatOf, qkOf_eq]
  generalize qOf w v = q
  have h87 : ((-8 : ℝ) : EReal) ≤ ((7 : ℝ) : EReal) := by rw [EReal.coe_le_coe_iff]; norm_num
  rcases le_total 0 s with hs | hs
  · have hm := mul_mono hs
    have e : s * ((-8 : ℝ) : EReal) ≤ s * ((7 : ℝ) : EReal) := hm h87
    rw [max_eq_right e, min_eq_left e, ← hm.map_max, ← hm.map_min]
  · have hm := mul_anti hs
    have e : s * ((7 : ℝ) : EReal) ≤ s * ((-8 : ℝ) : EReal) := hm h87
    rw [max_eq_left e, min_eq_right e, ← hm.map_min, ← hm.map_max]
    show s * _ = s * _
    rw [min_comm ((7 : ℝ) : EReal) (max _ _), max_min_distrib_left, max_eq_right h87, min_comm]

/-- The eighth power of the reference's argument is 256 times the kernel's, and the kernel's is real. -/
theorem u8Of_eq (v : EReal) : ∃ r : ℝ, a8Of v = (r : EReal) ∧ u8Of v = ((256 * r : ℝ) : EReal) := by
  obtain ⟨σ, h1, h2⟩ := sig_tanh v
  rw [a8Of, u8Of, uOf, aOf_eq h2, hOf_eq h1]
  generalize hR σ = h
  simp only [← EReal.coe_mul, ← EReal.coe_sub, EReal.coe_eq_coe_iff]
  exact ⟨_, rfl, by ring⟩

/-- The kernel's entry of the gradient is the reference's. -/
theorem dkOf_eq (g s : EReal) (w : BitVec 8) (v : EReal) : dkOf g (aOf v) (csOf s w v) = dvOf g s w v := by
  obtain ⟨σ, h1, h2⟩ := sig_tanh v
  rw [dkOf, dvOf, csOf, qkOf_eq, u7Of, uOf, dhOf, tOf_eq h1, aOf_eq h2, hOf_eq h1, h1]
  generalize hq : qOf w v = q
  have hmask : (hR σ - 1 / 2) * (hR σ - 1 / 2) < 1 / 4 ↔ 0 < σ * (6 / 5) + -1 / 10 ∧ σ * (6 / 5) + -1 / 10 < 1 := by
    rw [hR]
    constructor
    · intro h
      constructor
      · by_contra hc
        rw [max_eq_left (not_lt.mp hc), min_eq_right (by norm_num)] at h
        norm_num at h
      · by_contra hc
        have hc := not_lt.mp hc
        rw [max_eq_right (by linarith), min_eq_left hc] at h
        norm_num at h
    · rintro ⟨h0, h1⟩
      rw [max_eq_right h0.le, min_eq_right h1.le]
      nlinarith
  simp only [← EReal.coe_mul, ← EReal.coe_sub]
  simp only [← EReal.coe_zero, EReal.coe_lt_coe_iff, hmask]
  by_cases hM : 0 < σ * (6 / 5) + -1 / 10 ∧ σ * (6 / 5) + -1 / 10 < 1
  · rw [if_pos hM, if_pos hM]
    have hh : hR σ = σ * (6 / 5) + -1 / 10 := by rw [hR, max_eq_right hM.1.le, min_eq_right hM.2.le]
    rw [hh]
    obtain ⟨d, hd⟩ : ∃ d, d = 6 / 5 * σ * (1 - σ) := ⟨_, rfl⟩
    have hd0 : 0 ≤ d := by rw [hd]; nlinarith [hM.1, hM.2]
    have e1 : 9 / 25 - (σ * (6 / 5) + -1 / 10 - 1 / 2) * (σ * (6 / 5) + -1 / 10 - 1 / 2) = 6 / 5 * d := by rw [hd]; ring
    rw [e1, ← hd]
    generalize ht : σ * (6 / 5) + -1 / 10 = t
    rw [EReal.left_distrib_of_nonneg_of_ne_top (by exact_mod_cast (by linarith : (0:ℝ) ≤ 6 / 5 * d)) (EReal.coe_ne_top _),
      EReal.right_distrib_of_nonneg_of_ne_top (by exact_mod_cast hd0) (EReal.coe_ne_top _)]
    congr 1
    · split_ifs with h7
      · have e2 : (((6 / 5 * d : ℝ) : EReal)) * ((s * ((-5 / 768 : ℝ) : EReal)) * g)
            = (((6 / 5 * d : ℝ) : EReal) * ((-5 / 768 : ℝ) : EReal)) * (g * s) := by ac_rfl
        have e3 : ((-1 / 128 : ℝ) : EReal) * g * s * (d : EReal) = (((-1 / 128 : ℝ) : EReal) * (d : EReal)) * (g * s) := by ac_rfl
        rw [e2, e3, ← EReal.coe_mul, ← EReal.coe_mul]
        congr 2
        ring
      · simp
    · rw [← EReal.coe_mul, ← EReal.coe_mul, EReal.coe_eq_coe_iff]
      ring
  · rw [if_neg hM, if_neg hM]
    simp

end Cert.Spec

end
-- ==== Proof.RefCol.lean ====
module

public import proofs.«01_k».proof.Proof.Gen.ReferenceIdeal.Skeleton
public import proofs.«01_k».proof.Proof.Consts
public import proofs.«01_k».proof.Proof.Scalar
public import Idealize.ShloMosaic.Lib.Pointwise

@[expose] public section

set_option maxRecDepth 16384

noncomputable section

/-! The reference's four results at an index, as the column functions of the specification. -/

namespace Cert.Spec

open Idealize.ShloMosaic

/-- The residual of row `i`: the target minus the product of the inputs with one column of dequantized weights. -/
def errOf (x : Fin 256 → Fin 6144 → EReal) (y : Fin 256 → EReal) (w : Fin 6144 → BitVec 8) (s : EReal) (v : Fin 6144 → EReal)
    (i : Fin 256) : EReal := y i - ∑ k : Fin 6144, x i k * whatOf s (w k) (v k)
/-- The mean squared residual of a column. -/
def reconOf (x : Fin 256 → Fin 6144 → EReal) (y : Fin 256 → EReal) (w : Fin 6144 → BitVec 8) (s : EReal) (v : Fin 6144 → EReal) : EReal :=
  Ideal.div (∑ i : Fin 256, errOf x y w s v i * errOf x y w s v i) ((256 : ℝ) : EReal)
/-- The mean rounding regularizer of a column. -/
def regOf (v : Fin 6144 → EReal) : EReal := ((1 / 6144 : ℝ) : EReal) * ∑ k : Fin 6144, (((1 : ℝ) : EReal) - u8Of (v k))
/-- The gradient at row `k` of a column. -/
def gradOf (x : Fin 256 → Fin 6144 → EReal) (y : Fin 256 → EReal) (w : Fin 6144 → BitVec 8) (s : EReal) (v : Fin 6144 → EReal)
    (k : Fin 6144) : EReal := dvOf (∑ i : Fin 256, x i k * errOf x y w s v i) s (w k) (v k)

end Cert.Spec

namespace Cert.ReferenceIdeal.Hand

open Cert.ReferenceIdeal Cert.ReferenceIdeal.Gen Idealize.ShloMosaic Cert.Spec Cert.Consts

variable (x0 : Vec Ideal S256x6144 .bf16) (x1 : Vec Ideal S256x20480 .bf16) (x2 : Vec Ideal S6144x20480 .i8)
  (x3 : Vec Ideal S1x20480 .f32) (x4 : Vec Ideal S6144x20480 .f32)

/-- The stretched sigmoid of an entry. -/
theorem pay5_apply (k : Fin 6144) (n : Fin 20480) : k0_pay5 x4 (ix2 k n) = tOf (x4 (ix2 k n)) := by
  pointwise [k0_pay5, k0_pay4, r_stretch, r_gamma, tOf]

/-- The rectified sigmoid of an entry. -/
theorem pay6_apply (k : Fin 6144) (n : Fin 20480) : k0_pay6 x4 (ix2 k n) = hOf (x4 (ix2 k n)) := by
  pointwise [k0_pay6, pay5_apply, hOf, f1, f0]

/-- The weight plus the rectified sigmoid at an entry. -/
theorem pay7_apply (k : Fin 6144) (n : Fin 20480) : k0_pay7 x4 x2 (ix2 k n) = qOf (x2 (ix2 k n)) (x4 (ix2 k n)) := by
  pointwise [k0_pay7, pay6_apply, qOf]
  rfl

/-- The residual at an entry. -/
theorem pay8_apply (i : Fin 256) (n : Fin 20480) : k0_pay8 x0 x1 x3 x4 x2 (ix2 i n) =
    errOf (fun i k => x0 (ix2 i k)) (fun i => x1 (ix2 i n)) (fun k => x2 (ix2 k n)) (x3 (ix2 0 n)) (fun k => x4 (ix2 k n)) i := by
  pointwise [k0_pay8, k0_pay2, k0_pay3, pay7_apply, f7, fm8, errOf, whatOf]

/-- The reconstruction loss of a column. -/
theorem pay9_apply (n : Fin 20480) : k0_pay9 x0 x1 x3 x4 x2 (ix2 0 n) =
    reconOf (fun i k => x0 (ix2 i k)) (fun i => x1 (ix2 i n)) (fun k => x2 (ix2 k n)) (x3 (ix2 0 n)) (fun k => x4 (ix2 k n)) := by
  pointwise [k0_pay9, pay8_apply, f256, reconOf]

/-- Twice the rectified sigmoid less one, at an entry. -/
theorem pay11_apply (k : Fin 6144) (n : Fin 20480) : k0_pay11 (k0_pay10 x4) (ix2 k n) = uOf (x4 (ix2 k n)) := by
  pointwise [k0_pay11, k0_pay10, pay6_apply, f1, f2, uOf]

/-- The regularizer of a column. -/
theorem pay14_apply (n : Fin 20480) : k0_pay14 (k0_pay10 x4) (ix2 0 n) = regOf (fun k => x4 (ix2 k n)) := by
  pointwise [k0_pay14, k0_pay13, k0_pay12, pay11_apply, f1, r_reg_weight, regOf, u8Of]

/-- The derivative of the rectified sigmoid at an entry. -/
theorem pay16_apply (k : Fin 6144) (n : Fin 20480) : k0_pay16 (k0_pay4 x4) (k0_pay5 x4) (ix2 k n) = dhOf (x4 (ix2 k n)) := by
  pointwise [k0_pay16, k0_pay4, pay5_apply, f1, f0, r_stretch, dhOf]
  by_cases h1 : 0 < tOf (x4 (ix2 k n)) <;> by_cases h2 : tOf (x4 (ix2 k n)) < ((1 : ℝ) : EReal) <;>
    simp only [h1, h2, decide_true, decide_false, and_true, and_false, if_true, if_false] <;> rfl

/-- The gradient at an entry, for any residual `e`. -/
theorem pay17_apply (e : FVec Ideal S256x20480 .f32) (k : Fin 6144) (n : Fin 20480) :
    k0_pay1 (k0_pay16 (k0_pay4 x4) (k0_pay5 x4)) (k0_pay17 (k0_pay2 x0) (k0_pay3 x3) (k0_pay7 x4 x2) e (k0_pay10 x4)) (ix2 k n) =
      dvOf (∑ i : Fin 256, x0 (ix2 i k) * e (ix2 i n)) (x3 (ix2 0 n)) (x2 (ix2 k n)) (x4 (ix2 k n)) := by
  pointwise [k0_pay1, pay16_apply, k0_pay17, k0_pay15, k0_pay13, k0_pay12, k0_pay2, k0_pay3, pay7_apply, pay11_apply, f7, f0, fm128, r_reg_slope, dvOf, u7Of]

end Cert.ReferenceIdeal.Hand

end
-- ==== Proof.KernelCol.lean ====
module

public import proofs.«01_k».proof.Proof.Arrays
public import proofs.«01_k».proof.Proof.RefCol
public import Idealize.ShloMosaic.Lib.Pointwise

@[expose] public section

set_option maxRecDepth 16384

noncomputable section

/-! What one grid point of the kernel leaves at an index, as the column functions of the specification. -/

namespace Cert.KernelIdeal.Hand

open Cert.KernelIdeal Cert.KernelIdeal.Gen Idealize.ShloMosaic Cert.Consts
open Cert.Spec (qkOf wkOf a8Of dkOf whatOf errOf reconOf regOf gradOf dvOf u8Of)

/-! ## The payloads at an index -/

section Payloads

variable (s : Vec Ideal S1x256 .f32) (v : Vec Ideal S512x256 .f32) (w : Vec Ideal S512x256 .i8)

/-- The centred rounding offset of an entry. -/
theorem pay5_apply (r : Fin 512) (j : Fin 256) : k0_pay5 v (ix2 r j) = Spec.aOf (v (ix2 r j)) := by
  pointwise [k0_pay5, k_half_stretch, f12, fm12, Spec.aOf]

/-- The quantized value plus offset of an entry. -/
theorem pay6_apply (r : Fin 512) (j : Fin 256) : k0_pay6 v w (ix2 r j) = qkOf (w (ix2 r j)) (v (ix2 r j)) := by
  pointwise [k0_pay6, pay5_apply, b12, qkOf]
  rfl

/-- One forward chunk adds to the accumulator the product of its columns of activations with its dequantized rows. -/
theorem pay7_apply (acc : Vec Ideal S256x256 .f32) (x : Vec Ideal S256x512 .bf16) (i : Fin 256) (j : Fin 256) :
    k0_pay7 (k0_pay10 s) (k0_pay13 s) (k0_pay14 s) v w acc x (ix2 i j) =
      acc (ix2 i j) + ∑ k : Fin 512, x (ix2 i k) * wkOf (s (ix2 0 j)) (w (ix2 k j)) (v (ix2 k j)) := by
  pointwise [k0_pay7, k0_pay10, k0_pay13, k0_pay14, k0_pay11, k0_pay12, pay6_apply, f7, fm8, wkOf]

/-- The reconstruction gradient's factor at an entry: the scale times -5/768 where the value is not clipped above, else zero. -/
theorem pay8_apply (r : Fin 512) (j : Fin 256) :
    k0_pay18 (k0_pay8 (k0_pay15 s) v w) (ix2 r j) = Spec.csOf (s (ix2 0 j)) (w (ix2 r j)) (v (ix2 r j)) := by
  pointwise [k0_pay18, k0_pay8, k0_pay15, k0_pay10, pay6_apply, f7, f0, k_rec_grad, Spec.csOf]

/-- The kept transpose of the activations. -/
theorem pay9_apply (x : Vec Ideal S256x6144 .bf16) (r : Fin 6144) (j : Fin 256) : k0_pay9 x (ix2 r j) = x (ix2 j r) := by
  pointwise [k0_pay9]

/-- The product accumulator starts at zero. -/
theorem pay16_apply (i : Fin 256) (j : Fin 256) : k0_pay16 (F := Ideal) (ix2 i j) = 0 := by
  pointwise [k0_pay16, f0]

/-- The regularizer accumulator starts at zero. -/
theorem pay17_apply (i : Fin 8) (j : Fin 256) : k0_pay17 (F := Ideal) (ix2 i j) = 0 := by
  pointwise [k0_pay17, f0]

/-- One forward chunk adds to row `r` of the regularizer accumulator the eighth powers of the rows congruent to `r` modulo 8. -/
theorem pay19_apply (acc : FVec Ideal S8x256 .f32) (r : Fin 8) (j : Fin 256) :
    k0_pay19 acc (k0_pay5 v) (ix2 r j) = acc (ix2 r j) + ∑ k : Fin 64, a8Of (v (ix2 (⟨k.val * 8 + r.val, by omega⟩ : Fin 512) j)) := by
  pointwise [k0_pay19, pay5_apply, a8Of]

/-- The regularizer from the eight accumulator rows. -/
theorem pay20_apply (acc : FVec Ideal S8x256 .f32) (j : Fin 256) :
    k0_pay20 acc (ix2 0 j) = ((1 / 6144 : ℝ) : EReal) * (((6144 : ℝ) : EReal) - ((256 : ℝ) : EReal) * ∑ r : Fin 8, acc (ix2 r j)) := by
  pointwise [k0_pay20, f256, f6144, k_reg_weight]

/-- The residual is the target less the accumulated product. -/
theorem pay1_apply (y : Vec Ideal S256x256 .bf16) (acc : Vec Ideal S256x256 .f32) (i : Fin 256) (j : Fin 256) :
    k0_pay1 (k0_pay21 y) acc (ix2 i j) = y (ix2 i j) - acc (ix2 i j) := by
  pointwise [k0_pay1, k0_pay21]

/-- The mean of the squared residuals of a column. -/
theorem pay2_apply (y : Vec Ideal S256x256 .bf16) (acc : Vec Ideal S256x256 .f32) (j : Fin 256) :
    k0_pay2 (k0_pay21 y) acc (ix2 0 j) =
      Ideal.div (∑ i : Fin 256, (y (ix2 i j) - acc (ix2 i j)) * (y (ix2 i j) - acc (ix2 i j))) ((256 : ℝ) : EReal) := by
  pointwise [k0_pay2, pay1_apply, f256]

/-- One backward chunk's gradient at an entry. -/
theorem pay4_apply (y : Vec Ideal S256x256 .bf16) (acc : Vec Ideal S256x256 .f32) (x : Vec Ideal S512x256 .bf16)
    (a : Vec Ideal S512x256 .f32) (cs : Vec Ideal S512x256 .f32) (r : Fin 512) (j : Fin 256) :
    k0_pay4 (k0_pay21 y) acc x a cs (ix2 r j) =
      dkOf (∑ i : Fin 256, x (ix2 r i) * (y (ix2 i j) - acc (ix2 i j))) (a (ix2 r j)) (cs (ix2 r j)) := by
  pointwise [k0_pay4, k0_pay3, pay1_apply, f0, f14, k_a_sq_max, k_reg_grad, dkOf]

end Payloads

/-! ## Chunks at an index -/

/-- Row `t` of chunk `q`, modulo the number of rows. -/
def row (q t : ℕ) : Fin 6144 := ⟨(512 * q + t) % 6144, Nat.mod_lt _ (by decide)⟩

/-- An entry of a chunk of rows. -/
theorem rowsOf_apply {e : EltTy} (X : Vec Ideal S6144x256 e) (q : ℕ) (r : Fin 512) (j : Fin 256) :
    rowsOf X q (ix2 r j) = X (ix2 (row q r.val) j) :=
  congrArg X (ix2_eq_valueIdx (row q r.val) j).symm

/-- An entry of a chunk of columns. -/
theorem colsOf_apply {e : EltTy} (X : Vec Ideal S256x6144 e) (q : ℕ) (i : Fin 256) (r : Fin 512) :
    colsOf X q (ix2 i r) = X (ix2 i (row q r.val)) :=
  congrArg X (ix2_eq_valueIdx i (row q r.val)).symm

/-- An entry of an array made of chunks of rows. -/
theorem tiles_apply {e : EltTy} (f : ℕ → Vec Ideal S512x256 e) (r : Fin 6144) (j : Fin 256) :
    tiles f (ix2 r j) = f (r.val / 512) (ix2 (⟨r.val % 512, Nat.mod_lt _ (by decide)⟩ : Fin 512) j) :=
  congrArg (f (r.val / 512)) (ix2_eq_valueIdx (⟨r.val % 512, Nat.mod_lt _ (by decide)⟩ : Fin 512) j).symm

/-- A row is row `r % 512` of chunk `r / 512`. -/
theorem row_div_mod (r : Fin 6144) : row (r.val / 512) (r.val % 512) = r :=
  Fin.ext (by show (512 * (r.val / 512) + r.val % 512) % 6144 = r.val; have := r.isLt; omega)

/-- A sum over the rows, chunk by chunk. -/
theorem sum_chunks {M : Type*} [AddCommMonoid M] (f : Fin 6144 → M) :
    ∑ q ∈ Finset.range 12, ∑ t : Fin 512, f (row q t.val) = ∑ k : Fin 6144, f k := by
  rw [Fin.sum_univ_tiles 12 512 (by norm_num) f, Finset.sum_range]
  refine Finset.sum_congr rfl fun q _ => Finset.sum_congr rfl fun t _ => congrArg f (Fin.ext ?_)
  show (512 * q.val + t.val) % 6144 = q.val * 512 + t.val
  have := q.isLt; have := t.isLt; omega

/-! ## The accumulators -/

variable (x0 : Vec Ideal S256x6144 .bf16) (x1 : Vec Ideal S256x256 .bf16) (x2 : Vec Ideal S6144x256 .i8)
  (x3 : Vec Ideal S1x256 .f32) (x4 : Vec Ideal S6144x256 .f32)

/-- The product accumulator after `q` chunks: the sum over the rows of those chunks. -/
theorem accOf_apply (i : Fin 256) (j : Fin 256) : ∀ q : ℕ, accOf x0 x2 x3 x4 q (ix2 i j) =
    ∑ p ∈ Finset.range q, ∑ t : Fin 512, x0 (ix2 i (row p t.val)) * whatOf (x3 (ix2 0 j)) (x2 (ix2 (row p t.val) j)) (x4 (ix2 (row p t.val) j))
  | 0 => by rw [Finset.sum_range_zero]; exact pay16_apply i j
  | q + 1 => by
    rw [Finset.sum_range_succ, ← accOf_apply i j q, accOf, pay7_apply]
    simp only [rowsOf_apply, colsOf_apply, Spec.wkOf_eq]

/-- The accumulated product after all chunks is the product over all rows. -/
theorem acc_apply (i : Fin 256) (j : Fin 256) : accOf x0 x2 x3 x4 12 (ix2 i j) =
    ∑ k : Fin 6144, x0 (ix2 i k) * whatOf (x3 (ix2 0 j)) (x2 (ix2 k j)) (x4 (ix2 k j)) := by
  rw [accOf_apply, sum_chunks fun k => x0 (ix2 i k) * whatOf (x3 (ix2 0 j)) (x2 (ix2 k j)) (x4 (ix2 k j))]

/-- The regularizer accumulator after `q` chunks. -/
theorem psOf_apply (r : Fin 8) (j : Fin 256) : ∀ q : ℕ, psOf x4 q (ix2 r j) =
    ∑ p ∈ Finset.range q, ∑ k : Fin 64, a8Of (x4 (ix2 (row p (k.val * 8 + r.val)) j))
  | 0 => by rw [Finset.sum_range_zero]; exact pay17_apply r j
  | q + 1 => by
    rw [Finset.sum_range_succ, ← psOf_apply r j q, psOf, pay19_apply]
    simp only [rowsOf_apply]

/-- The accumulated eighth powers, summed over the eight accumulator rows, are the sum over all rows. -/
theorem ps_sum (j : Fin 256) : ∑ r : Fin 8, psOf x4 12 (ix2 r j) = ∑ k : Fin 6144, a8Of (x4 (ix2 k j)) := by
  simp only [psOf_apply]
  rw [Finset.sum_comm, ← sum_chunks fun k => a8Of (x4 (ix2 k j))]
  refine Finset.sum_congr rfl fun q _ => ?_
  rw [Finset.sum_comm, Fin.sum_univ_tiles 64 8 (by norm_num) fun t : Fin 512 => a8Of (x4 (ix2 (row q t.val) j))]

/-- A finite sum of reals, read as extended reals, is the sum of the reals. -/
theorem coe_sum {ι : Type*} (S : Finset ι) (f : ι → ℝ) : ∑ k ∈ S, ((f k : ℝ) : EReal) = ((∑ k ∈ S, f k : ℝ) : EReal) := by
  classical
  induction S using Finset.induction_on with
  | empty => simp
  | insert a s ha ih => rw [Finset.sum_insert ha, Finset.sum_insert ha, ih, EReal.coe_add]

/-- The kernel's form of the mean regularizer is the reference's. -/
theorem reg_eq (v : Fin 6144 → EReal) :
    ((1 / 6144 : ℝ) : EReal) * (((6144 : ℝ) : EReal) - ((256 : ℝ) : EReal) * ∑ k : Fin 6144, a8Of (v k)) = regOf v := by
  choose f hf using fun k => Spec.u8Of_eq (v k)
  simp only [regOf, (hf _).1, (hf _).2, ← EReal.coe_sub, coe_sum, ← EReal.coe_mul, EReal.coe_eq_coe_iff]
  rw [Finset.sum_sub_distrib, Finset.mul_sum]
  simp

/-! ## The outputs -/

/-- The target less the accumulated product is the residual of the column. -/
theorem resid_apply (i : Fin 256) (j : Fin 256) : (x1 (ix2 i j) - accOf x0 x2 x3 x4 12 (ix2 i j) : EReal) =
    errOf (fun i k => x0 (ix2 i k)) (fun i => x1 (ix2 i j)) (fun k => x2 (ix2 k j)) (x3 (ix2 0 j)) (fun k => x4 (ix2 k j)) i := by
  rw [acc_apply, errOf]

/-- The point's reconstruction loss of a column. -/
theorem out5_apply (j : Fin 256) : out5 x0 x1 x2 x3 x4 (ix2 0 j) =
    reconOf (fun i k => x0 (ix2 i k)) (fun i => x1 (ix2 i j)) (fun k => x2 (ix2 k j)) (x3 (ix2 0 j)) (fun k => x4 (ix2 k j)) := by
  rw [out5, pay2_apply]
  exact congrArg (fun e : EReal => Ideal.div e ((256 : ℝ) : EReal))
    (Finset.sum_congr rfl fun i _ => congrArg (fun e : EReal => e * e) (resid_apply x0 x1 x2 x3 x4 i j))

/-- The point's regularizer of a column. -/
theorem out6_apply (j : Fin 256) : out6 x4 (ix2 0 j) = regOf (fun k => x4 (ix2 k j)) := by
  rw [out6, pay20_apply, ps_sum]
  exact reg_eq fun k => x4 (ix2 k j)

/-- The point's residual at an entry. -/
theorem out7_apply (i : Fin 256) (j : Fin 256) : out7 x0 x1 x2 x3 x4 (ix2 i j) =
    errOf (fun i k => x0 (ix2 i k)) (fun i => x1 (ix2 i j)) (fun k => x2 (ix2 k j)) (x3 (ix2 0 j)) (fun k => x4 (ix2 k j)) i := by
  rw [← resid_apply]
  exact pay1_apply x1 _ i j

/-- The point's gradient at an entry. -/
theorem out8_apply (z : Vec Ideal S256x6144 .bf16) (r : Fin 6144) (j : Fin 256)
    (hz : ∀ i, z (ix2 i r) = x0 (ix2 i r)) : out8 (k0_pay9 z) x0 x1 x2 x3 x4 (ix2 r j) =
    gradOf (fun i k => x0 (ix2 i k)) (fun i => x1 (ix2 i j)) (fun k => x2 (ix2 k j)) (x3 (ix2 0 j)) (fun k => x4 (ix2 k j)) r := by
  have hq : r.val / 512 < 12 := by have := r.isLt; omega
  rw [out8, tiles_apply, pay4_apply, aOf, csOf, rowsOf_tiles _ _ hq, rowsOf_tiles _ _ hq, pay5_apply, pay8_apply]
  simp only [rowsOf_apply, pay9_apply, row_div_mod, hz, Spec.dkOf_eq]
  exact congrArg (fun e : EReal => dvOf e (x3 (ix2 0 j)) (x2 (ix2 r j)) (x4 (ix2 r j)))
    (Finset.sum_congr rfl fun i _ => congrArg (fun e : EReal => (x0 (ix2 i r) : EReal) * e) (resid_apply x0 x1 x2 x3 x4 i j))

end Cert.KernelIdeal.Hand

end
-- ==== Proof.KernelRes.lean ====
module

public import proofs.«01_k».proof.Proof.KernelVal
public import proofs.«01_k».proof.Proof.KernelCol

@[expose] public section

set_option maxRecDepth 16384

noncomputable section

/-! The kernel's final arrays, read at an index as the column functions of the specification. -/

namespace Cert.KernelIdeal.Hand

open Cert.KernelIdeal Cert.KernelIdeal.Gen Idealize.ShloMosaic Idealize.ShloMosaic.TcCoe
open Cert.Spec (errOf reconOf regOf gradOf)

variable (m : (ℓ : Loc nD τ sig) → Buf (Elt Ideal) ℓ)

/-- The columns of the point's blocks are the columns of the arrays. -/
theorem col0 (c : Dev nD) (t : Fin cfg0.N) : (fun (i : Fin 256) (k : Fin 6144) => iblk m c 0 t (ix2 i k)) = fun i k => V m c main_v0 (ix2 i k) :=
  funext fun i => funext fun k => by rw [ix2_eq_valueIdx]; exact iblk0_apply m c t i k
/-- A column of the point's block of targets is the column of the targets. -/
theorem col1 (c : Dev nD) (n : Fin 20480) : (fun i : Fin 256 => iblk m c 1 (ptOf n) (ix2 i (colOf n))) = fun i => V m c main_v1 (ix2 i n) :=
  funext fun i => by rw [ix2_eq_valueIdx, ix2_eq_valueIdx]; exact iblk1_apply m c n i
/-- A column of the point's block of weights is the column of the weights. -/
theorem col2 (c : Dev nD) (n : Fin 20480) : (fun k : Fin 6144 => iblk m c 2 (ptOf n) (ix2 k (colOf n))) = fun k => V m c main_arg2 (ix2 k n) :=
  funext fun k => by rw [ix2_eq_valueIdx, ix2_eq_valueIdx]; exact iblk2_apply m c n k
/-- An entry of the point's block of scales is the column's scale. -/
theorem col3 (c : Dev nD) (n : Fin 20480) : iblk m c 3 (ptOf n) (ix2 (0 : Fin 1) (colOf n)) = V m c main_v2 (ix2 (0 : Fin 1) n) := by
  rw [ix2_eq_valueIdx, ix2_eq_valueIdx]; exact iblk3_apply m c n 0
/-- A column of the point's block of the rounding variable is the column of the rounding variable. -/
theorem col4 (c : Dev nD) (n : Fin 20480) : (fun k : Fin 6144 => iblk m c 4 (ptOf n) (ix2 k (colOf n))) = fun k => V m c main_arg4 (ix2 k n) :=
  funext fun k => by rw [ix2_eq_valueIdx, ix2_eq_valueIdx]; exact iblk4_apply m c n k

/-- The mean squared error of a column. -/
theorem res5_apply (c : Dev nD) (n : Fin 20480) : G5 m c (ix2 0 n) =
    reconOf (fun i k => V m c main_v0 (ix2 i k)) (fun i => V m c main_v1 (ix2 i n)) (fun k => V m c main_arg2 (ix2 k n))
      (V m c main_v2 (ix2 0 n)) (fun k => V m c main_arg4 (ix2 k n)) := by
  rw [ix2_eq_valueIdx (0 : Fin 1) n, G5_apply, ← ix2_eq_valueIdx, out5_apply]
  exact congr (congr (congr (congr (congrArg reconOf (col0 m c (ptOf n))) (col1 m c n)) (col2 m c n)) ((col3 m c n).trans (congrArg _ (ix2_eq_valueIdx (0 : Fin 1) n)))) (col4 m c n)

/-- The mean regularizer of a column. -/
theorem res6_apply (c : Dev nD) (n : Fin 20480) : G6 m c (ix2 0 n) = regOf (fun k => V m c main_arg4 (ix2 k n)) := by
  rw [ix2_eq_valueIdx, G6_apply, ← ix2_eq_valueIdx, out6_apply]
  exact congrArg regOf (col4 m c n)

/-- The residual of a column. -/
theorem res7_apply (c : Dev nD) (i : Fin 256) (n : Fin 20480) : G7 m c (ix2 i n) =
    errOf (fun i k => V m c main_v0 (ix2 i k)) (fun i => V m c main_v1 (ix2 i n)) (fun k => V m c main_arg2 (ix2 k n))
      (V m c main_v2 (ix2 0 n)) (fun k => V m c main_arg4 (ix2 k n)) i := by
  rw [ix2_eq_valueIdx i n, G7_apply, ← ix2_eq_valueIdx, out7_apply]
  exact congrFun (congr (congr (congr (congr (congrArg errOf (col0 m c (ptOf n))) (col1 m c n)) (col2 m c n)) (col3 m c n)) (col4 m c n)) i

/-- The gradient of a column. -/
theorem res8_apply (c : Dev nD) (k : Fin 6144) (n : Fin 20480) : G8 m c (ix2 k n) =
    gradOf (fun i k => V m c main_v0 (ix2 i k)) (fun i => V m c main_v1 (ix2 i n)) (fun k => V m c main_arg2 (ix2 k n))
      (V m c main_v2 (ix2 0 n)) (fun k => V m c main_arg4 (ix2 k n)) k := by
  rw [ix2_eq_valueIdx k n, G8_apply, ← ix2_eq_valueIdx, out8_apply _ _ _ _ _ _ k (colOf n) fun i =>
    (congrFun (congrFun (col0 m c pt0) i) k).trans (congrFun (congrFun (col0 m c (ptOf n)) i) k).symm]
  exact congrFun (congr (congr (congr (congr (congrArg gradOf (col0 m c (ptOf n))) (col1 m c n)) (col2 m c n)) (col3 m c n)) (col4 m c n)) k

end Cert.KernelIdeal.Hand

end
-- ==== Proof.RefVal.lean ====
module

public import proofs.«01_k».proof.Proof.RefCol
public import proofs.«01_k».proof.Proof.Gen.ReferenceIdeal.Value
public import Idealize.ShloMosaic.Lib.Pipeline.Value

@[expose] public section

set_option maxRecDepth 16384

noncomputable section

/-! The reference's final arrays, read at an index as the column functions of the specification. -/

namespace Cert.ReferenceIdeal.Hand

open Cert.ReferenceIdeal Cert.ReferenceIdeal.Gen Idealize.ShloMosaic Idealize.ShloMosaic.TcCoe
open Idealize.ShloMosaic.Pipeline (Dat)
open Cert.Spec (errOf reconOf regOf gradOf)

/-- The zero offset. -/
theorem off00 : (![0, 0] : Fin 2 → Nat) = fun _ => 0 := funext fun a => by fin_cases a <;> rfl

section Blocks

variable {F : FTy → Type} [FloatOps F] [Named F]
variable (m : (ℓ : Loc nD τ sig) → Buf (Elt F) ℓ)

/-- The single grid point. -/
def pt : Fin cfg0.N := ⟨0, by rw [show cfg0.N = 1 from N_0]; exact Nat.one_pos⟩

/-- Every window's block index is zero on both axes. -/
theorem idx0 : win0_0.index pt 0 = 0 ∧ win0_0.index pt 1 = 0 := by decide +kernel
/-- Window 1's block index is zero on both axes. -/
theorem idx1 : win0_1.index pt 0 = 0 ∧ win0_1.index pt 1 = 0 := by decide +kernel
/-- Window 2's block index is zero on both axes. -/
theorem idx2 : win0_2.index pt 0 = 0 ∧ win0_2.index pt 1 = 0 := by decide +kernel
/-- Window 3's block index is zero on both axes. -/
theorem idx3 : win0_3.index pt 0 = 0 ∧ win0_3.index pt 1 = 0 := by decide +kernel
/-- Window 4's block index is zero on both axes. -/
theorem idx4 : win0_4.index pt 0 = 0 ∧ win0_4.index pt 1 = 0 := by decide +kernel
/-- Window 5's block index is zero on both axes. -/
theorem idx5 : win0_5.index pt 0 = 0 ∧ win0_5.index pt 1 = 0 := by decide +kernel
/-- Window 6's block index is zero on both axes. -/
theorem idx6 : win0_6.index pt 0 = 0 ∧ win0_6.index pt 1 = 0 := by decide +kernel
/-- Window 7's block index is zero on both axes. -/
theorem idx7 : win0_7.index pt 0 = 0 ∧ win0_7.index pt 1 = 0 := by decide +kernel
/-- Window 8's block index is zero on both axes. -/
theorem idx8 : win0_8.index pt 0 = 0 ∧ win0_8.index pt 1 = 0 := by decide +kernel

/-- A window's block is its whole array: an index of the block is the same index of the array. -/
theorem emb0 (y : S256x6144.Idx) : ((cfg0.win 0).blk pt).view.emb y = y := by
  refine funext fun x => Fin.ext ?_
  match x with
  | ⟨0, _⟩ => show win0_0.index pt (0 : Fin 2) * 256 + 1 * (y 0).val = (y 0).val; rw [idx0.1]; omega
  | ⟨1, _⟩ => show win0_0.index pt (1 : Fin 2) * 6144 + 1 * (y 1).val = (y 1).val; rw [idx0.2]; omega
/-- An index of window 1's block is the same index of its array. -/
theorem emb1 (y : S256x20480.Idx) : ((cfg0.win 1).blk pt).view.emb y = y := by
  refine funext fun x => Fin.ext ?_
  match x with
  | ⟨0, _⟩ => show win0_1.index pt (0 : Fin 2) * 256 + 1 * (y 0).val = (y 0).val; rw [idx1.1]; omega
  | ⟨1, _⟩ => show win0_1.index pt (1 : Fin 2) * 20480 + 1 * (y 1).val = (y 1).val; rw [idx1.2]; omega
/-- An index of window 2's block is the same index of its array. -/
theorem emb2 (y : S6144x20480.Idx) : ((cfg0.win 2).blk pt).view.emb y = y := by
  refine funext fun x => Fin.ext ?_
  match x with
  | ⟨0, _⟩ => show win0_2.index pt (0 : Fin 2) * 6144 + 1 * (y 0).val = (y 0).val; rw [idx2.1]; omega
  | ⟨1, _⟩ => show win0_2.index pt (1 : Fin 2) * 20480 + 1 * (y 1).val = (y 1).val; rw [idx2.2]; omega
/-- An index of window 3's block is the same index of its array. -/
theorem emb3 (y : S1x20480.Idx) : ((cfg0.win 3).blk pt).view.emb y = y := by
  refine funext fun x => Fin.ext ?_
  match x with
  | ⟨0, _⟩ => show win0_3.index pt (0 : Fin 2) * 1 + 1 * (y 0).val = (y 0).val; rw [idx3.1]; omega
  | ⟨1, _⟩ => show win0_3.index pt (1 : Fin 2) * 20480 + 1 * (y 1).val = (y 1).val; rw [idx3.2]; omega
/-- An index of window 4's block is the same index of its array. -/
theorem emb4 (y : S6144x20480.Idx) : ((cfg0.win 4).blk pt).view.emb y = y := by
  refine funext fun x => Fin.ext ?_
  match x with
  | ⟨0, _⟩ => show win0_4.index pt (0 : Fin 2) * 6144 + 1 * (y 0).val = (y 0).val; rw [idx4.1]; omega
  | ⟨1, _⟩ => show win0_4.index pt (1 : Fin 2) * 20480 + 1 * (y 1).val = (y 1).val; rw [idx4.2]; omega
/-- An index of window 5's block is the same index of its array. -/
theorem emb5 (y : S1x20480.Idx) : ((cfg0.win 5).blk pt).view.emb y = y := by
  refine funext fun x => Fin.ext ?_
  match x with
  | ⟨0, _⟩ => show win0_5.index pt (0 : Fin 2) * 1 + 1 * (y 0).val = (y 0).val; rw [idx5.1]; omega
  | ⟨1, _⟩ => show win0_5.index pt (1 : Fin 2) * 20480 + 1 * (y 1).val = (y 1).val; rw [idx5.2]; omega
/-- An index of window 6's block is the same index of its array. -/
theorem emb6 (y : S1x20480.Idx) : ((cfg0.win 6).blk pt).view.emb y = y := by
  refine funext fun x => Fin.ext ?_
  match x with
  | ⟨0, _⟩ => show win0_6.index pt (0 : Fin 2) * 1 + 1 * (y 0).val = (y 0).val; rw [idx6.1]; omega
  | ⟨1, _⟩ => show win0_6.index pt (1 : Fin 2) * 20480 + 1 * (y 1).val = (y 1).val; rw [idx6.2]; omega
/-- An index of window 7's block is the same index of its array. -/
theorem emb7 (y : S256x20480.Idx) : ((cfg0.win 7).blk pt).view.emb y = y := by
  refine funext fun x => Fin.ext ?_
  match x with
  | ⟨0, _⟩ => show win0_7.index pt (0 : Fin 2) * 256 + 1 * (y 0).val = (y 0).val; rw [idx7.1]; omega
  | ⟨1, _⟩ => show win0_7.index pt (1 : Fin 2) * 20480 + 1 * (y 1).val = (y 1).val; rw [idx7.2]; omega
/-- An index of window 8's block is the same index of its array. -/
theorem emb8 (y : S6144x20480.Idx) : ((cfg0.win 8).blk pt).view.emb y = y := by
  refine funext fun x => Fin.ext ?_
  match x with
  | ⟨0, _⟩ => show win0_8.index pt (0 : Fin 2) * 6144 + 1 * (y 0).val = (y 0).val; rw [idx8.1]; omega
  | ⟨1, _⟩ => show win0_8.index pt (1 : Fin 2) * 20480 + 1 * (y 1).val = (y 1).val; rw [idx8.2]; omega

/-- So an input window's block is the array the region finds. -/
theorem iblk0 (c : Dev nD) : iblk m c 0 pt = V m c main_v0 := funext fun y => congrArg (V m c main_v0) (emb0 y)
/-- Input window 1's block is the whole array. -/
theorem iblk1 (c : Dev nD) : iblk m c 1 pt = V m c main_v1 := funext fun y => congrArg (V m c main_v1) (emb1 y)
/-- Input window 2's block is the whole array. -/
theorem iblk2 (c : Dev nD) : iblk m c 2 pt = V m c main_arg2 := funext fun y => congrArg (V m c main_arg2) (emb2 y)
/-- Input window 3's block is the whole array. -/
theorem iblk3 (c : Dev nD) : iblk m c 3 pt = V m c main_v2 := funext fun y => congrArg (V m c main_v2) (emb3 y)
/-- Input window 4's block is the whole array. -/
theorem iblk4 (c : Dev nD) : iblk m c 4 pt = V m c main_arg4 := funext fun y => congrArg (V m c main_arg4) (emb4 y)

/-- And an output window's final array is what the point leaves in the window. -/
theorem arr5 (c : Dev nD) : (dats m 0 c).arrAt 5 cfg0.N =
    out0_5 (V m c main_v0) (V m c main_v1) (V m c main_arg2) (V m c main_v2) (V m c main_arg4) := by
  have h := Value.blocks5 m c pt (by decide +kernel)
  rw [Value.flushed5, iblk0, iblk1, iblk2, iblk3, iblk4] at h
  generalize (dats m 0 c).arrAt 5 cfg0.N = A at h ⊢
  generalize out0_5 (V m c main_v0) (V m c main_v1) (V m c main_arg2) (V m c main_v2) (V m c main_arg4) = o at h ⊢
  funext y
  have hy : A (((cfg0.win 5).blk pt).view.emb y) = o ((cfg0.win 5).xinj (grid0.coords pt) y) := congrFun h y
  have hx : (cfg0.win 5).xinj (grid0.coords pt) y = y := funext fun a => match a with | ⟨0, _⟩ => rfl | ⟨1, _⟩ => rfl
  rw [emb5] at hy
  exact hy.trans (congrArg o hx)
/-- Output window 6's final array is what the point leaves in it. -/
theorem arr6 (c : Dev nD) : (dats m 0 c).arrAt 6 cfg0.N =
    out0_6 (V m c main_v0) (V m c main_v1) (V m c main_arg2) (V m c main_v2) (V m c main_arg4) := by
  have h := Value.blocks6 m c pt (by decide +kernel)
  rw [Value.flushed6, iblk0, iblk1, iblk2, iblk3, iblk4] at h
  generalize (dats m 0 c).arrAt 6 cfg0.N = A at h ⊢
  generalize out0_6 (V m c main_v0) (V m c main_v1) (V m c main_arg2) (V m c main_v2) (V m c main_arg4) = o at h ⊢
  funext y
  have hy : A (((cfg0.win 6).blk pt).view.emb y) = o ((cfg0.win 6).xinj (grid0.coords pt) y) := congrFun h y
  have hx : (cfg0.win 6).xinj (grid0.coords pt) y = y := funext fun a => match a with | ⟨0, _⟩ => rfl | ⟨1, _⟩ => rfl
  rw [emb6] at hy
  exact hy.trans (congrArg o hx)
/-- Output window 7's final array is what the point leaves in it. -/
theorem arr7 (c : Dev nD) : (dats m 0 c).arrAt 7 cfg0.N =
    out0_7 (V m c main_v0) (V m c main_v1) (V m c main_arg2) (V m c main_v2) (V m c main_arg4) := by
  have h := Value.blocks7 m c pt (by decide +kernel)
  rw [Value.flushed7, iblk0, iblk1, iblk2, iblk3, iblk4] at h
  generalize (dats m 0 c).arrAt 7 cfg0.N = A at h ⊢
  generalize out0_7 (V m c main_v0) (V m c main_v1) (V m c main_arg2) (V m c main_v2) (V m c main_arg4) = o at h ⊢
  funext y
  have hy : A (((cfg0.win 7).blk pt).view.emb y) = o ((cfg0.win 7).xinj (grid0.coords pt) y) := congrFun h y
  have hx : (cfg0.win 7).xinj (grid0.coords pt) y = y := funext fun a => match a with | ⟨0, _⟩ => rfl | ⟨1, _⟩ => rfl
  rw [emb7] at hy
  exact hy.trans (congrArg o hx)
/-- Output window 8's final array is what the point leaves in it. -/
theorem arr8 (c : Dev nD) : (dats m 0 c).arrAt 8 cfg0.N =
    out0_8 (V m c main_v0) (V m c main_v1) (V m c main_arg2) (V m c main_v2) (V m c main_arg4) := by
  have h := Value.blocks8 m c pt (by decide +kernel)
  rw [Value.flushed8, iblk0, iblk1, iblk2, iblk3, iblk4] at h
  generalize (dats m 0 c).arrAt 8 cfg0.N = A at h ⊢
  generalize out0_8 (V m c main_v0) (V m c main_v1) (V m c main_arg2) (V m c main_v2) (V m c main_arg4) = o at h ⊢
  funext y
  have hy : A (((cfg0.win 8).blk pt).view.emb y) = o ((cfg0.win 8).xinj (grid0.coords pt) y) := congrFun h y
  have hx : (cfg0.win 8).xinj (grid0.coords pt) y = y := funext fun a => match a with | ⟨0, _⟩ => rfl | ⟨1, _⟩ => rfl
  rw [emb8] at hy
  exact hy.trans (congrArg o hx)

variable (x0 : Vec F S256x6144 .bf16) (x1 : Vec F S256x20480 .bf16) (x2 : Vec F S6144x20480 .i8) (x3 : Vec F S1x20480 .f32)
  (x4 : Vec F S6144x20480 .f32)

/-- The load of the whole activations. -/
theorem ld0 : View.ld x0 r0_0 = x0 := View.ld_unit_zero (S := S256x6144) off00 _ x0
/-- The load of the whole targets. -/
theorem ld1 : View.ld x1 r0_1 = x1 := View.ld_unit_zero (S := S256x20480) off00 _ x1
/-- The load of the whole row of scales. -/
theorem ld2 : View.ld x3 r0_2 = x3 := View.ld_unit_zero (S := S1x20480) off00 _ x3
/-- The load of a whole array of the weights' shape. -/
theorem ld3 {e : EltTy} (x : Vec F S6144x20480 e) : View.ld x r0_3 = x := View.ld_unit_zero (S := S6144x20480) off00 _ x

/-- The point's blocks as payloads of the whole input arrays. -/
theorem out5_eq : out0_5 x0 x1 x2 x3 x4 = k0_pay9 x0 x1 x3 x4 x2 := by
  unfold out0_5
  rw [ld0, ld1, ld2, ld3, ld3]
  exact View.canon_unit_zero off00 _ _
/-- The regularizer as a payload of the inputs. -/
theorem out6_eq : out0_6 x0 x1 x2 x3 x4 = k0_pay14 (k0_pay10 x4) := by
  unfold out0_6 k0_pay19
  rw [ld3]
  exact View.canon_unit_zero off00 _ _
/-- The residual as a payload of the inputs. -/
theorem out7_eq : out0_7 x0 x1 x2 x3 x4 = k0_pay15 (k0_pay8 x0 x1 x3 x4 x2) := by
  unfold out0_7 k0_pay18
  rw [ld0, ld1, ld2, ld3, ld3]
  exact View.canon_unit_zero off00 _ _
/-- The gradient as a payload of the inputs. -/
theorem out8_eq : out0_8 x0 x1 x2 x3 x4 = k0_pay1 (k0_pay16 (k0_pay4 x4) (k0_pay5 x4))
    (k0_pay17 (k0_pay2 x0) (k0_pay3 x3) (k0_pay7 x4 x2) (k0_pay8 x0 x1 x3 x4 x2) (k0_pay10 x4)) := by
  unfold out0_8 k0_pay18 k0_pay19
  rw [ld0, ld1, ld2, ld3, ld3]
  exact View.canon_unit_zero off00 _ _

end Blocks

variable (m : (ℓ : Loc nD τ sig) → Buf (Elt Ideal) ℓ)

/-- The mean squared error of a column. -/
theorem arr5_apply (c : Dev nD) (n : Fin 20480) : (dats m 0 c).arrAt 5 cfg0.N (ix2 0 n) =
    reconOf (fun i k => V m c main_v0 (ix2 i k)) (fun i => V m c main_v1 (ix2 i n)) (fun k => V m c main_arg2 (ix2 k n))
      (V m c main_v2 (ix2 0 n)) (fun k => V m c main_arg4 (ix2 k n)) := by
  rw [arr5, out5_eq]
  exact pay9_apply _ _ _ _ _ n

/-- The mean regularizer of a column. -/
theorem arr6_apply (c : Dev nD) (n : Fin 20480) : (dats m 0 c).arrAt 6 cfg0.N (ix2 0 n) =
    regOf (fun k => V m c main_arg4 (ix2 k n)) := by
  rw [arr6, out6_eq]
  exact pay14_apply _ n

/-- The residual of a column. -/
theorem arr7_apply (c : Dev nD) (i : Fin 256) (n : Fin 20480) : (dats m 0 c).arrAt 7 cfg0.N (ix2 i n) =
    errOf (fun i k => V m c main_v0 (ix2 i k)) (fun i => V m c main_v1 (ix2 i n)) (fun k => V m c main_arg2 (ix2 k n))
      (V m c main_v2 (ix2 0 n)) (fun k => V m c main_arg4 (ix2 k n)) i := by
  rw [arr7, out7_eq]
  exact pay8_apply _ _ _ _ _ i n

/-- The gradient of a column. -/
theorem arr8_apply (c : Dev nD) (k : Fin 6144) (n : Fin 20480) : (dats m 0 c).arrAt 8 cfg0.N (ix2 k n) =
    gradOf (fun i k => V m c main_v0 (ix2 i k)) (fun i => V m c main_v1 (ix2 i n)) (fun k => V m c main_arg2 (ix2 k n))
      (V m c main_v2 (ix2 0 n)) (fun k => V m c main_arg4 (ix2 k n)) k := by
  rw [arr8, out8_eq, pay17_apply]
  simp only [pay8_apply]
  rfl

end Cert.ReferenceIdeal.Hand

end
-- ==== Proof.Agree.lean ====
module

public import proofs.«01_k».proof.Proof.Gen.KernelIdeal.Frame.Runs
public import proofs.«01_k».proof.Proof.Gen.ReferenceIdeal.Value
public import Idealize.ShloMosaic.Lib.Claim

@[expose] public section

noncomputable section

/-! Equal arguments give equal arrays to the two regions: each program reshapes the same arguments the same way. -/

namespace Cert.Agree

open Idealize.ShloMosaic Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Equal activations reach the two regions as equal matrices. -/
theorem in0 (h : m' ((c.tc : Thread ReferenceIdeal.nD ReferenceIdeal.τ).loc ReferenceIdeal.main_arg0) =
      m ((c.tc : Thread KernelIdeal.nD KernelIdeal.τ).loc KernelIdeal.main_arg0)) :
    ReferenceIdeal.Gen.V m' c ReferenceIdeal.main_v0 = KernelIdeal.Gen.V m c KernelIdeal.main_v0 := by
  entry_read
  rw [h]
  rfl

/-- Equal targets reach the two regions as equal matrices. -/
theorem in1 (h : m' ((c.tc : Thread ReferenceIdeal.nD ReferenceIdeal.τ).loc ReferenceIdeal.main_arg1) =
      m ((c.tc : Thread KernelIdeal.nD KernelIdeal.τ).loc KernelIdeal.main_arg1)) :
    ReferenceIdeal.Gen.V m' c ReferenceIdeal.main_v1 = KernelIdeal.Gen.V m c KernelIdeal.main_v1 := by
  entry_read
  rw [h]
  rfl

/-- The integer weights reach both regions as they were passed. -/
theorem in2 (h : m' ((c.tc : Thread ReferenceIdeal.nD ReferenceIdeal.τ).loc ReferenceIdeal.main_arg2) =
      m ((c.tc : Thread KernelIdeal.nD KernelIdeal.τ).loc KernelIdeal.main_arg2)) :
    ReferenceIdeal.Gen.V m' c ReferenceIdeal.main_arg2 = KernelIdeal.Gen.V m c KernelIdeal.main_arg2 :=
  (ReferenceIdeal.Gen.V_main_arg2 m' c).trans (h.trans (KernelIdeal.Gen.V_main_arg2 m c).symm)

/-- Equal scales reach the two regions as equal rows. -/
theorem in3 (h : m' ((c.tc : Thread ReferenceIdeal.nD ReferenceIdeal.τ).loc ReferenceIdeal.main_arg3) =
      m ((c.tc : Thread KernelIdeal.nD KernelIdeal.τ).loc KernelIdeal.main_arg3)) :
    ReferenceIdeal.Gen.V m' c ReferenceIdeal.main_v2 = KernelIdeal.Gen.V m c KernelIdeal.main_v2 := by
  entry_read
  rw [h]
  rfl

/-- The rounding variable reaches both regions as it was passed. -/
theorem in4 (h : m' ((c.tc : Thread ReferenceIdeal.nD ReferenceIdeal.τ).loc ReferenceIdeal.main_arg4) =
      m ((c.tc : Thread KernelIdeal.nD KernelIdeal.τ).loc KernelIdeal.main_arg4)) :
    ReferenceIdeal.Gen.V m' c ReferenceIdeal.main_arg4 = KernelIdeal.Gen.V m c KernelIdeal.main_arg4 :=
  (ReferenceIdeal.Gen.V_main_arg4 m' c).trans (h.trans (KernelIdeal.Gen.V_main_arg4 m c).symm)

end Cert.Agree

end
-- ==== Proof.lean ====
module

public import proofs.«01_k».proof.Defs
public import proofs.«01_k».proof.Proof.Gen.Kernel.Frame.Runs
public import proofs.«01_k».proof.Proof.Gen.KernelIdeal.Frame.Runs
public import proofs.«01_k».proof.Proof.Gen.ReferenceIdeal.Value
public import proofs.«01_k».proof.Proof.KernelFrame
public import proofs.«01_k».proof.Proof.KernelRes
public import proofs.«01_k».proof.Proof.RefVal
public import proofs.«01_k».proof.Proof.Agree

@[expose] public section

set_option maxRecDepth 16384

noncomputable section

namespace Cert.Proof

open Idealize.ShloMosaic Idealize.ShloMosaic.TcCoe Idealize.SL.Sem

section Values

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- An index of a matrix is the pair of its coordinates. -/
theorem idx_eq {a b : ℕ} (y : (⟨_, ![a, b]⟩ : Shape).Idx) : y = ix2 (y 0) (y 1) :=
  funext fun x => match x with | ⟨0, _⟩ => rfl | ⟨1, _⟩ => rfl

variable (h0 : ReferenceIdeal.Gen.V m' c ReferenceIdeal.main_v0 = KernelIdeal.Gen.V m c KernelIdeal.main_v0)
  (h1 : ReferenceIdeal.Gen.V m' c ReferenceIdeal.main_v1 = KernelIdeal.Gen.V m c KernelIdeal.main_v1)
  (h2 : ReferenceIdeal.Gen.V m' c ReferenceIdeal.main_arg2 = KernelIdeal.Gen.V m c KernelIdeal.main_arg2)
  (h3 : ReferenceIdeal.Gen.V m' c ReferenceIdeal.main_v2 = KernelIdeal.Gen.V m c KernelIdeal.main_v2)
  (h4 : ReferenceIdeal.Gen.V m' c ReferenceIdeal.main_arg4 = KernelIdeal.Gen.V m c KernelIdeal.main_arg4)

include h0 h1 h2 h3 h4 in
/-- The reconstruction loss: the reference's array is the kernel's. -/
theorem eq5 : (ReferenceIdeal.Gen.dats m' 0 c).arrAt 5 ReferenceIdeal.cfg0.N = KernelIdeal.Hand.G5 m c := by
  funext y
  have hy : y = ix2 (0 : Fin 1) (y 1) := (idx_eq y).trans (congrArg (fun a : Fin 1 => ix2 a (y 1)) (Subsingleton.elim (α := Fin 1) (y 0) 0))
  rw [hy]
  refine (ReferenceIdeal.Hand.arr5_apply m' c (y 1)).trans (Eq.trans ?_ (KernelIdeal.Hand.res5_apply m c (y 1)).symm)
  rw [h0, h1, h2, h3, h4]

include h4 in
/-- The regularizer: the reference's array is the kernel's. -/
theorem eq6 : (ReferenceIdeal.Gen.dats m' 0 c).arrAt 6 ReferenceIdeal.cfg0.N = KernelIdeal.Hand.G6 m c := by
  funext y
  have hy : y = ix2 (0 : Fin 1) (y 1) := (idx_eq y).trans (congrArg (fun a : Fin 1 => ix2 a (y 1)) (Subsingleton.elim (α := Fin 1) (y 0) 0))
  rw [hy]
  refine (ReferenceIdeal.Hand.arr6_apply m' c (y 1)).trans (Eq.trans ?_ (KernelIdeal.Hand.res6_apply m c (y 1)).symm)
  rw [h4]

include h0 h1 h2 h3 h4 in
/-- The residual: the reference's array is the kernel's. -/
theorem eq7 : (ReferenceIdeal.Gen.dats m' 0 c).arrAt 7 ReferenceIdeal.cfg0.N = KernelIdeal.Hand.G7 m c := by
  funext y
  rw [idx_eq y]
  refine (ReferenceIdeal.Hand.arr7_apply m' c (y 0) (y 1)).trans (Eq.trans ?_ (KernelIdeal.Hand.res7_apply m c (y 0) (y 1)).symm)
  rw [h0, h1, h2, h3, h4]

include h0 h1 h2 h3 h4 in
/-- The gradient: the reference's array is the kernel's. -/
theorem eq8 : (ReferenceIdeal.Gen.dats m' 0 c).arrAt 8 ReferenceIdeal.cfg0.N = KernelIdeal.Hand.G8 m c := by
  funext y
  rw [idx_eq y]
  refine (ReferenceIdeal.Hand.arr8_apply m' c (y 0) (y 1)).trans (Eq.trans ?_ (KernelIdeal.Hand.res8_apply m c (y 0) (y 1)).symm)
  rw [h0, h1, h2, h3, h4]

end Values

/-- At exact reals, from equal arguments the kernel and the reference end with the same four arrays. -/
theorem algebraic : Cert.algebraic_KernelIdeal_ReferenceIdeal
    (hKernelIdeal := Cert.KernelIdeal.Gen.facts) (hReferenceIdeal := Cert.ReferenceIdeal.Gen.facts) := by
  intro m g m' g' _ hin
  refine ⟨KernelIdeal.Hand.G5 m, KernelIdeal.Hand.G6 m, KernelIdeal.Hand.G7 m, KernelIdeal.Hand.G8 m, KernelIdeal.Hand.run m g, ?_⟩
  refine (θ_run _ _ _).mono (fun r h c => ?_) (ReferenceIdeal.Value.run_blocks m' g')
  obtain ⟨e0, e1, e2, e3, e4⟩ := hin c
  have i0 := Agree.in0 m m' c e0
  have i1 := Agree.in1 m m' c e1
  have i2 := Agree.in2 m m' c e2
  have i3 := Agree.in3 m m' c e3
  have i4 := Agree.in4 m m' c e4
  obtain ⟨o5, o6, o7, o8, hargs⟩ := h c
  exact ⟨o5.trans (eq5 m m' c i0 i1 i2 i3 i4), o6.trans (eq6 m m' c i4), o7.trans (eq7 m m' c i0 i1 i2 i3 i4),
    o8.trans (eq8 m m' c i0 i1 i2 i3 i4), hargs⟩

/-- Every claim of the certificate: the three frames, the named constants' values, and the equality of results. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ,
  ⟨IdealRules.named_const.statement _ "rec_grad" .f32 _ _ rfl,
  IdealRules.named_const.statement _ "half_stretch" .f32 _ _ rfl,
  IdealRules.named_const.statement _ "reg_weight" .f32 _ _ rfl,
  IdealRules.named_const.statement _ "a_sq_max" .f32 _ _ rfl,
  IdealRules.named_const.statement _ "reg_grad" .f32 _ _ rfl⟩, algebraic⟩

end Cert.Proof

end
